-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S_ : Shape := ⟨0, ![]⟩
abbrev S2x16x8192x64 : Shape := ⟨4, ![2, 16, 8192, 64]⟩
abbrev S2x16x3072x64 : Shape := ⟨4, ![2, 16, 3072, 64]⟩

class Facts : Prop where
  bcast_S_S2x16x8192x64 : S_.BroadcastsInDim S2x16x8192x64 (![] : Fin 0 → Fin S2x16x8192x64.rank)
  reducesTo_S2x16x8192x64_S_d0_1_2_3 : S2x16x8192x64.ReducesTo [0, 1, 2, 3] S_
  h_S_ : 0 < S_.numel
  bcast_S_S2x16x3072x64 : S_.BroadcastsInDim S2x16x3072x64 (![] : Fin 0 → Fin S2x16x3072x64.rank)
  reducesTo_S2x16x3072x64_S_d0_1_2_3 : S2x16x3072x64.ReducesTo [0, 1, 2, 3] S_

variable [Facts]

def fn {F : FTy → Type} [FloatOps F] (main_arg0 : IVec S_ 32) (main_arg1 : FVec F S2x16x8192x64 .f32) (main_arg2 : FVec F S2x16x3072x64 .f32) (main_arg3 : FVec F S2x16x3072x64 .f32) : IVec S_ 1 :=
  let main_v0 : FVec F S2x16x8192x64 .f32 := Host.absf main_arg1
  let main_cst : FVec F S_ .f32 := constant S_ .f32 0x7F800000#32
  let main_v1 : FVec F S2x16x8192x64 .f32 := broadcastInDim S2x16x8192x64 ![] bcast_S_S2x16x8192x64 main_cst
  let main_v2 : IVec S2x16x8192x64 1 := cmpf .olt main_v0 main_v1
  let main_c : IVec S_ 1 := constantI S_ 1 1#1
  let main_v3 : IVec S_ 1 := (fun x v => Host.reduce IntOp.andi x v reducesTo_S2x16x8192x64_S_d0_1_2_3 h_S_) main_v2 main_c
  let main_v4 : FVec F S2x16x3072x64 .f32 := Host.absf main_arg2
  let main_cst_0 : FVec F S_ .f32 := constant S_ .f32 0x7F800000#32
  let main_v5 : FVec F S2x16x3072x64 .f32 := broadcastInDim S2x16x3072x64 ![] bcast_S_S2x16x3072x64 main_cst_0
  let main_v6 : IVec S2x16x3072x64 1 := cmpf .olt main_v4 main_v5
  let main_c_1 : IVec S_ 1 := constantI S_ 1 1#1
  let main_v7 : IVec S_ 1 := (fun x v => Host.reduce IntOp.andi x v reducesTo_S2x16x3072x64_S_d0_1_2_3 h_S_) main_v6 main_c_1
  let main_v8 : IVec S_ 1 := andi main_v3 main_v7
  main_v8
-- ==== Kernel.lean ====
abbrev S_ : Shape := ⟨0, ![]⟩
abbrev S2x16x8192x64 : Shape := ⟨4, ![2, 16, 8192, 64]⟩
abbrev S2x16x3072x64 : Shape := ⟨4, ![2, 16, 3072, 64]⟩
abbrev S32x8192x64 : Shape := ⟨3, ![32, 8192, 64]⟩
abbrev S32x3072x64 : Shape := ⟨3, ![32, 3072, 64]⟩
abbrev S32x82x64 : Shape := ⟨3, ![32, 82, 64]⟩
abbrev S32x1x3072 : Shape := ⟨3, ![32, 1, 3072]⟩
abbrev S1x82x64 : Shape := ⟨3, ![1, 82, 64]⟩
abbrev S1x3072x64 : Shape := ⟨3, ![1, 3072, 64]⟩
abbrev S1x1x3072 : Shape := ⟨3, ![1, 1, 3072]⟩
abbrev S82x64 : Shape := ⟨2, ![82, 64]⟩
abbrev S3072x64 : Shape := ⟨2, ![3072, 64]⟩
abbrev S82x3072 : Shape := ⟨2, ![82, 3072]⟩
abbrev S3072 : Shape := ⟨1, ![3072]⟩
abbrev S1x3072 : Shape := ⟨2, ![1, 3072]⟩
abbrev S32x3072 : Shape := ⟨2, ![32, 3072]⟩
abbrev S32x1024 : Shape := ⟨2, ![32, 1024]⟩
abbrev S32x1024x1 : Shape := ⟨3, ![32, 1024, 1]⟩
abbrev S32x1024x64 : Shape := ⟨3, ![32, 1024, 64]⟩
abbrev S32x1024x64x1 : Shape := ⟨4, ![32, 1024, 64, 1]⟩
abbrev S1 : Shape := ⟨1, ![1]⟩
abbrev S1x1x1x1 : Shape := ⟨4, ![1, 1, 1, 1]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 60
  | .vmem => 14
  | .smem => 0
  | _ => 0

abbrev bufTy : (tb : Table) → Fin (tcTables nBuf tb) → BufTy
  | .hbm, ⟨0, _⟩ => ⟨S_, .i32⟩
  | .hbm, ⟨1, _⟩ => ⟨S2x16x8192x64, .f32⟩
  | .hbm, ⟨2, _⟩ => ⟨S2x16x3072x64, .f32⟩
  | .hbm, ⟨3, _⟩ => ⟨S2x16x3072x64, .f32⟩
  | .hbm, ⟨4, _⟩ => ⟨S32x8192x64, .f32⟩
  | .hbm, ⟨5, _⟩ => ⟨S32x3072x64, .f32⟩
  | .hbm, ⟨6, _⟩ => ⟨S32x3072x64, .f32⟩
  | .hbm, ⟨7, _⟩ => ⟨S32x82x64, .f32⟩
  | .hbm, ⟨8, _⟩ => ⟨S32x1x3072, .f32⟩
  | .hbm, ⟨9, _⟩ => ⟨S32x3072, .f32⟩
  | .hbm, ⟨10, _⟩ => ⟨S32x1024, .f32⟩
  | .hbm, ⟨11, _⟩ => ⟨S32x1024, .i32⟩
  | .hbm, ⟨12, _⟩ => ⟨S32x1024x1, .i32⟩
  | .hbm, ⟨13, _⟩ => ⟨S32x1024x64, .i32⟩
  | .hbm, ⟨14, _⟩ => ⟨S_, .i32⟩
  | .hbm, ⟨15, _⟩ => ⟨S32x1024x64, .i32⟩
  | .hbm, ⟨16, _⟩ => ⟨S32x1024x64, .i1⟩
  | .hbm, ⟨17, _⟩ => ⟨S_, .i32⟩
  | .hbm, ⟨18, _⟩ => ⟨S32x1024x64, .i32⟩
  | .hbm, ⟨19, _⟩ => ⟨S32x1024x64, .i32⟩
  | .hbm, ⟨20, _⟩ => ⟨S32x1024x64, .i32⟩
  | .hbm, ⟨21, _⟩ => ⟨S32x1024x64x1, .i32⟩
  | .hbm, ⟨22, _⟩ => ⟨S1, .i32⟩
  | .hbm, ⟨23, _⟩ => ⟨S_, .i32⟩
  | .hbm, ⟨24, _⟩ => ⟨S32x1024x64x1, .i32⟩
  | .hbm, ⟨25, _⟩ => ⟨S32x1024x64x1, .i1⟩
  | .hbm, ⟨26, _⟩ => ⟨S1x1x1x1, .i32⟩
  | .hbm, ⟨27, _⟩ => ⟨S32x1024x64x1, .i32⟩
  | .hbm, ⟨28, _⟩ => ⟨S32x1024x64x1, .i1⟩
  | .hbm, ⟨29, _⟩ => ⟨S32x1024x64x1, .i1⟩
  | .hbm, ⟨30, _⟩ => ⟨S_, .i1⟩
  | .hbm, ⟨31, _⟩ => ⟨S32x1024x64, .i1⟩
  | .hbm, ⟨32, _⟩ => ⟨S32x1024x64, .f32⟩
  | .hbm, ⟨33, _⟩ => ⟨S_, .f32⟩
  | .hbm, ⟨34, _⟩ => ⟨S32x1024x64, .f32⟩
  | .hbm, ⟨35, _⟩ => ⟨S32x1024x64, .f32⟩
  | .hbm, ⟨36, _⟩ => ⟨S_, .i32⟩
  | .hbm, ⟨37, _⟩ => ⟨S32x1024x64, .i32⟩
  | .hbm, ⟨38, _⟩ => ⟨S32x1024x64, .i1⟩
  | .hbm, ⟨39, _⟩ => ⟨S_, .i32⟩
  | .hbm, ⟨40, _⟩ => ⟨S32x1024x64, .i32⟩
  | .hbm, ⟨41, _⟩ => ⟨S32x1024x64, .i32⟩
  | .hbm, ⟨42, _⟩ => ⟨S32x1024x64, .i32⟩
  | .hbm, ⟨43, _⟩ => ⟨S32x1024x64x1, .i32⟩
  | .hbm, ⟨44, _⟩ => ⟨S1, .i32⟩
  | .hbm, ⟨45, _⟩ => ⟨S_, .i32⟩
  | .hbm, ⟨46, _⟩ => ⟨S32x1024x64x1, .i32⟩
  | .hbm, ⟨47, _⟩ => ⟨S32x1024x64x1, .i1⟩
  | .hbm, ⟨48, _⟩ => ⟨S1x1x1x1, .i32⟩
  | .hbm, ⟨49, _⟩ => ⟨S32x1024x64x1, .i32⟩
  | .hbm, ⟨50, _⟩ => ⟨S32x1024x64x1, .i1⟩
  | .hbm, ⟨51, _⟩ => ⟨S32x1024x64x1, .i1⟩
  | .hbm, ⟨52, _⟩ => ⟨S_, .i1⟩
  | .hbm, ⟨53, _⟩ => ⟨S32x1024x64, .i1⟩
  | .hbm, ⟨54, _⟩ => ⟨S32x1024x64, .f32⟩
  | .hbm, ⟨55, _⟩ => ⟨S_, .f32⟩
  | .hbm, ⟨56, _⟩ => ⟨S32x1024x64, .f32⟩
  | .hbm, ⟨57, _⟩ => ⟨S32x1024x64, .f32⟩
  | .hbm, ⟨58, _⟩ => ⟨S32x8192x64, .f32⟩
  | .hbm, ⟨59, _⟩ => ⟨S2x16x8192x64, .f32⟩
  | .local _ .vmem, ⟨0, _⟩ => ⟨S1x82x64, .f32⟩
  | .local _ .vmem, ⟨1, _⟩ => ⟨S1x82x64, .f32⟩
  | .local _ .vmem, ⟨2, _⟩ => ⟨S1x3072x64, .f32⟩
  | .local _ .vmem, ⟨3, _⟩ => ⟨S1x3072x64, .f32⟩
  | .local _ .vmem, ⟨4, _⟩ => ⟨S1x1x3072, .f32⟩
  | .local _ .vmem, ⟨5, _⟩ => ⟨S1x1x3072, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_values : Ref sig .tc := ⟨.hbm, 10, rfl⟩
abbrev main_indices : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v8 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x82x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S_ : Shape := ⟨0, ![]⟩
abbrev S2x16x8192x64 : Shape := ⟨4, ![2, 16, 8192, 64]⟩
abbrev S2x16x3072x64 : Shape := ⟨4, ![2, 16, 3072, 64]⟩
abbrev S2x16x82x64 : Shape := ⟨4, ![2, 16, 82, 64]⟩
abbrev S2x16x82x3072 : Shape := ⟨4, ![2, 16, 82, 3072]⟩
abbrev S2x16x3072 : Shape := ⟨3, ![2, 16, 3072]⟩
abbrev S2x16x1024 : Shape := ⟨3, ![2, 16, 1024]⟩
abbrev S2x16x1024x1 : Shape := ⟨4, ![2, 16, 1024, 1]⟩
abbrev S2x16x1024x64 : Shape := ⟨4, ![2, 16, 1024, 64]⟩
abbrev S2x16x1024x64x1 : Shape := ⟨5, ![2, 16, 1024, 64, 1]⟩
abbrev S1 : Shape := ⟨1, ![1]⟩
abbrev S1x1x1x1x1 : Shape := ⟨5, ![1, 1, 1, 1, 1]⟩
abbrev S2x16x8192x1024 : Shape := ⟨4, ![2, 16, 8192, 1024]⟩
abbrev S2x16x8192 : Shape := ⟨3, ![2, 16, 8192]⟩
abbrev S2x16x8192x1 : Shape := ⟨4, ![2, 16, 8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S_, .i32⟩
  | .hbm, ⟨1, _⟩ => ⟨S2x16x8192x64, .f32⟩
  | .hbm, ⟨2, _⟩ => ⟨S2x16x3072x64, .f32⟩
  | .hbm, ⟨3, _⟩ => ⟨S2x16x3072x64, .f32⟩
  | .hbm, ⟨4, _⟩ => ⟨S2x16x82x64, .f32⟩
  | .hbm, ⟨5, _⟩ => ⟨S2x16x82x3072, .f32⟩
  | .hbm, ⟨6, _⟩ => ⟨S_, .f32⟩
  | .hbm, ⟨7, _⟩ => ⟨S2x16x3072, .f32⟩
  | .hbm, ⟨8, _⟩ => ⟨S_, .f32⟩
  | .hbm, ⟨9, _⟩ => ⟨S2x16x3072, .f32⟩
  | .hbm, ⟨10, _⟩ => ⟨S2x16x3072, .f32⟩
  | .hbm, ⟨11, _⟩ => ⟨S2x16x1024, .f32⟩
  | .hbm, ⟨12, _⟩ => ⟨S2x16x1024, .i32⟩
  | .hbm, ⟨13, _⟩ => ⟨S2x16x1024x1, .i32⟩
  | .hbm, ⟨14, _⟩ => ⟨S2x16x1024x64, .i32⟩
  | .hbm, ⟨15, _⟩ => ⟨S_, .i32⟩
  | .hbm, ⟨16, _⟩ => ⟨S2x16x1024x64, .i32⟩
  | .hbm, ⟨17, _⟩ => ⟨S2x16x1024x64, .i1⟩
  | .hbm, ⟨18, _⟩ => ⟨S_, .i32⟩
  | .hbm, ⟨19, _⟩ => ⟨S2x16x1024x64, .i32⟩
  | .hbm, ⟨20, _⟩ => ⟨S2x16x1024x64, .i32⟩
  | .hbm, ⟨21, _⟩ => ⟨S2x16x1024x64, .i32⟩
  | .hbm, ⟨22, _⟩ => ⟨S2x16x1024x64x1, .i32⟩
  | .hbm, ⟨23, _⟩ => ⟨S1, .i32⟩
  | .hbm, ⟨24, _⟩ => ⟨S_, .i32⟩
  | .hbm, ⟨25, _⟩ => ⟨S2x16x1024x64x1, .i32⟩
  | .hbm, ⟨26, _⟩ => ⟨S2x16x1024x64x1, .i1⟩
  | .hbm, ⟨27, _⟩ => ⟨S1x1x1x1x1, .i32⟩
  | .hbm, ⟨28, _⟩ => ⟨S2x16x1024x64x1, .i32⟩
  | .hbm, ⟨29, _⟩ => ⟨S2x16x1024x64x1, .i1⟩
  | .hbm, ⟨30, _⟩ => ⟨S2x16x1024x64x1, .i1⟩
  | .hbm, ⟨31, _⟩ => ⟨S_, .i1⟩
  | .hbm, ⟨32, _⟩ => ⟨S2x16x1024x64, .i1⟩
  | .hbm, ⟨33, _⟩ => ⟨S2x16x1024x64, .f32⟩
  | .hbm, ⟨34, _⟩ => ⟨S_, .f32⟩
  | .hbm, ⟨35, _⟩ => ⟨S2x16x1024x64, .f32⟩
  | .hbm, ⟨36, _⟩ => ⟨S2x16x1024x64, .f32⟩
  | .hbm, ⟨37, _⟩ => ⟨S_, .i32⟩
  | .hbm, ⟨38, _⟩ => ⟨S2x16x1024x64, .i32⟩
  | .hbm, ⟨39, _⟩ => ⟨S2x16x1024x64, .i1⟩
  | .hbm, ⟨40, _⟩ => ⟨S_, .i32⟩
  | .hbm, ⟨41, _⟩ => ⟨S2x16x1024x64, .i32⟩
  | .hbm, ⟨42, _⟩ => ⟨S2x16x1024x64, .i32⟩
  | .hbm, ⟨43, _⟩ => ⟨S2x16x1024x64, .i32⟩
  | .hbm, ⟨44, _⟩ => ⟨S2x16x1024x64x1, .i32⟩
  | .hbm, ⟨45, _⟩ => ⟨S1, .i32⟩
  | .hbm, ⟨46, _⟩ => ⟨S_, .i32⟩
  | .hbm, ⟨47, _⟩ => ⟨S2x16x1024x64x1, .i32⟩
  | .hbm, ⟨48, _⟩ => ⟨S2x16x1024x64x1, .i1⟩
  | .hbm, ⟨49, _⟩ => ⟨S1x1x1x1x1, .i32⟩
  | .hbm, ⟨50, _⟩ => ⟨S2x16x1024x64x1, .i32⟩
  | .hbm, ⟨51, _⟩ => ⟨S2x16x1024x64x1, .i1⟩
  | .hbm, ⟨52, _⟩ => ⟨S2x16x1024x64x1, .i1⟩
  | .hbm, ⟨53, _⟩ => ⟨S_, .i1⟩
  | .hbm, ⟨54, _⟩ => ⟨S2x16x1024x64, .i1⟩
  | .hbm, ⟨55, _⟩ => ⟨S2x16x1024x64, .f32⟩
  | .hbm, ⟨56, _⟩ => ⟨S_, .f32⟩
  | .hbm, ⟨57, _⟩ => ⟨S2x16x1024x64, .f32⟩
  | .hbm, ⟨58, _⟩ => ⟨S2x16x1024x64, .f32⟩
  | .hbm, ⟨59, _⟩ => ⟨S2x16x8192x1024, .f32⟩
  | .hbm, ⟨60, _⟩ => ⟨S_, .f32⟩
  | .hbm, ⟨61, _⟩ => ⟨S_, .f32⟩
  | .hbm, ⟨62, _⟩ => ⟨S2x16x8192x1024, .f32⟩
  | .hbm, ⟨63, _⟩ => ⟨S2x16x8192x1024, .f32⟩
  | .hbm, ⟨64, _⟩ => ⟨S_, .f32⟩
  | .hbm, ⟨65, _⟩ => ⟨S2x16x8192, .f32⟩
  | .hbm, ⟨66, _⟩ => ⟨S_, .f32⟩
  | .hbm, ⟨67, _⟩ => ⟨S2x16x8192, .f32⟩
  | .hbm, ⟨68, _⟩ => ⟨S2x16x8192, .f32⟩
  | .hbm, ⟨69, _⟩ => ⟨S2x16x8192x1, .f32⟩
  | .hbm, ⟨70, _⟩ => ⟨S2x16x8192x1024, .f32⟩
  | .hbm, ⟨71, _⟩ => ⟨S2x16x8192x1024, .f32⟩
  | .hbm, ⟨72, _⟩ => ⟨S2x16x8192x1024, .f32⟩
  | .hbm, ⟨73, _⟩ => ⟨S_, .f32⟩
  | .hbm, ⟨74, _⟩ => ⟨S2x16x8192, .f32⟩
  | .hbm, ⟨75, _⟩ => ⟨S2x16x8192x1, .f32⟩
  | .hbm, ⟨76, _⟩ => ⟨S2x16x8192x1024, .f32⟩
  | .hbm, ⟨77, _⟩ => ⟨S2x16x8192x1024, .f32⟩
  | .hbm, ⟨78, _⟩ => ⟨S2x16x8192x64, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_values : Ref sig .tc := ⟨.hbm, 11, rfl⟩
abbrev main_indices : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v8 : Ref sig .tc := ⟨.hbm, 58, rfl⟩
abbrev main_v9 : Ref sig .tc := ⟨.hbm, 59, rfl⟩
abbrev main_cst_1 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_2 : Ref sig .tc := ⟨.hbm, 64, rfl⟩
abbrev main_v13 : Ref sig .tc := ⟨.hbm, 65, rfl⟩
abbrev main_cst_3 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_4 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩

abbrev nD : Nat := 1
abbrev τ : Topo := Topo.v7x

variable {F : FTy → Type} [FloatOps F]
-- ==== Proof.RefFrame.lean ====
/- The frame of the reference program at `Ideal`: it runs, it leaves its arguments as they were, and it has no semaphore. -/
module

public import proofs.«01_k».proof.Defs
public import proofs.«01_k».proof.Proof.Gen.ReferenceIdeal.Run
public import Idealize.ShloMosaic.Adequacy
public import Idealize.ShloMosaic.Lib.Quiescent
public import Idealize.ShloMosaic.Init

@[expose] public section

noncomputable section

namespace Cert.ReferenceIdeal.Frame

open Idealize.ShloMosaic Idealize.SL.Sem

/-- Every run of the reference leaves its four arguments unchanged and every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono
    (fun r h => ⟨fun c => (h c).2, sem_eq_zero_of_no_sems (by decide) r.2⟩)
    (Cert.ReferenceIdeal.Value.run (F := Ideal) m ρ)

end Cert.ReferenceIdeal.Frame

end
-- ==== Proof.Attn.lean ====
/- The mathematics of the claim, free of any program: one head's selection of keys, its attention over the selected
   keys, and the equation between dividing each weight by the weights' sum and dividing the weighted sum once. -/
module

public import Idealize.ShloMosaic.PureOps.Ideal.Laws
public import Idealize.ShloMosaic.PureOps.ShapeOps

@[expose] public section

noncomputable section

namespace Cert.Attn

open Idealize.ShloMosaic

/-! ## The programs' constants -/

/-- The kernel's scale is one eighth. -/
theorem eighth : Ideal.ofBits .f32 0x3E000000#32 = ((1 / 8 : ℝ) : EReal) := by
  simp [Ideal.ofBits, Ideal.ieee, -EReal.coe_mul]; norm_num

/-- The reference's head width, 64. -/
theorem width : Ideal.ofBits .f32 0x42800000#32 = ((64 : ℝ) : EReal) := by
  simp [Ideal.ofBits, Ideal.ieee, -EReal.coe_mul]; norm_num

/-- The value a maximum starts from is the least one. -/
theorem least : Ideal.ofBits .f32 0xFF800000#32 = ⊥ := by
  simp [Ideal.ofBits, Ideal.ieee]

/-- The bound of the precondition is the greatest value. -/
theorem greatest : Ideal.ofBits .f32 0x7F800000#32 = ⊤ := by
  simp [Ideal.ofBits, Ideal.ieee]

/-- Dividing by the square root of 64 multiplies by one eighth. -/
theorem div_sqrt_width (x : EReal) : Ideal.div x (Ideal.sqrt (Ideal.ofBits .f32 0x42800000#32)) = x * ((1 / 8 : ℝ) : EReal) := by
  have e : Ideal.sqrt ((64 : ℝ) : EReal) = ((8 : ℝ) : EReal) := by
    show (if (64 : ℝ) < 0 then ⊥ else ((Real.sqrt 64 : ℝ) : EReal)) = _
    rw [if_neg (by norm_num), show (64 : ℝ) = 8 ^ 2 by norm_num, Real.sqrt_sq (by norm_num)]
  rw [width, e, Ideal.div_coe (by norm_num)]

/-! ## Selection -/

/-- The similarity of key `j` to the sampled queries (every hundredth one): the mean of their 82 inner products. -/
def sim (Q : Fin 8192 → Fin 64 → EReal) (K : Fin 3072 → Fin 64 → EReal) (j : Fin 3072) : EReal :=
  Ideal.div (∑ r : Fin 82, ∑ t : Fin 64, Q ⟨100 * r.val, by have := r.isLt; omega⟩ t * K j t) (Ideal.ofBits .f32 0x42A40000#32)

/-- The key in place `p` when a row of similarities is sorted, the greatest first and equal ones by position. -/
def pick (row : Fin 3072 → EReal) (p : Fin 1024) : Fin 3072 :=
  sortedFrom (fun a b => Ideal.cmpTotal .gt (row a) (row b) == 1#1) ⟨p.val, p.isLt.trans (by decide)⟩

/-! ## Attention over 1024 selected keys -/

/-- A row's largest score. -/
def top (s : Fin 1024 → EReal) : EReal := Finset.univ.fold max ⊥ s

/-- A row's weights: the exponentials of the scores less the largest. -/
def wt (s : Fin 1024 → EReal) (p : Fin 1024) : EReal := Ideal.exp (s p - top s)

/-- The weighted sum of `w`, divided once by the sum of the weights. -/
def once (s w : Fin 1024 → EReal) : EReal := Ideal.div (∑ p, wt s p * w p) (∑ p, wt s p)

/-- The sum of `w` under weights each divided by the sum of the weights. -/
def each (s w : Fin 1024 → EReal) : EReal := ∑ p, Ideal.div (wt s p) (∑ p, wt s p) * w p

/-- A row of scores: query row `x` against the selected keys, scaled by one eighth. -/
def score (x : Fin 64 → EReal) (K : Fin 3072 → Fin 64 → EReal) (sel : Fin 1024 → Fin 3072) (p : Fin 1024) : EReal :=
  (∑ t, x t * K (sel p) t) * ((1 / 8 : ℝ) : EReal)

/-- One head's result: query `i`'s weighted sum, in column `d`, of the values at the selected keys. -/
def head (Q : Fin 8192 → Fin 64 → EReal) (K V : Fin 3072 → Fin 64 → EReal) (i : Fin 8192) (d : Fin 64) : EReal :=
  once (score (Q i) K (pick (sim Q K))) fun p => V (pick (sim Q K) p) d

/-! ## Real numbers among the extended ones -/

/-- An extended real that is neither infinity is a real number. -/
theorem exists_real {x : EReal} (h : x ≠ ⊤ ∧ x ≠ ⊥) : ∃ r : ℝ, x = r := ⟨x.toReal, (EReal.coe_toReal h.1 h.2).symm⟩

/-- A finite sum of real numbers is a real number. -/
theorem sum_real {ι : Type} (S : Finset ι) (f : ι → EReal) (h : ∀ i, ∃ r : ℝ, f i = r) : ∃ r : ℝ, ∑ i ∈ S, f i = r := by
  classical
  induction S using Finset.induction_on with
  | empty => exact ⟨0, by simp⟩
  | insert a S ha ih =>
    obtain ⟨r, hr⟩ := ih
    obtain ⟨q, hq⟩ := h a
    exact ⟨q + r, by rw [Finset.sum_insert ha, hr, hq, EReal.coe_add]⟩

/-- A finite sum of positive real numbers over a nonempty set is a positive real number. -/
theorem sum_pos_real {ι : Type} (S : Finset ι) (hS : S.Nonempty) (f : ι → EReal) (h : ∀ i, ∃ r : ℝ, 0 < r ∧ f i = r) :
    ∃ r : ℝ, 0 < r ∧ ∑ i ∈ S, f i = r := by
  choose g hg using h
  refine ⟨∑ i ∈ S, g i, Finset.sum_pos (fun i _ => (hg i).1) hS, ?_⟩
  clear hS
  classical
  induction S using Finset.induction_on with
  | empty => simp
  | insert a S ha ih => rw [Finset.sum_insert ha, Finset.sum_insert ha, ih, (hg a).2, EReal.coe_add]

/-- A factor that is neither negative nor infinite comes out of a finite sum of extended reals, whatever the terms. -/
theorem sum_mul_of_nonneg {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

/-! ## The equation -/

/-- The largest of 1024 real scores is a real number. -/
theorem top_real (s : Fin 1024 → EReal) (h : ∀ p, ∃ r : ℝ, s p = r) : ∃ r : ℝ, top s = r := by
  obtain ⟨p, -, hp⟩ := Finset.exists_mem_eq_sup (Finset.univ : Finset (Fin 1024)) ⟨0, Finset.mem_univ _⟩ s
  obtain ⟨r, hr⟩ := h p
  exact ⟨r, by rw [← hr, ← hp]; rfl⟩

/-- Every weight of a row of real scores is a positive real number. -/
theorem wt_pos (s : Fin 1024 → EReal) (h : ∀ p, ∃ r : ℝ, s p = r) (p : Fin 1024) : ∃ r : ℝ, 0 < r ∧ wt s p = r := by
  obtain ⟨m, hm⟩ := top_real s h
  obtain ⟨r, hr⟩ := h p
  exact ⟨Real.exp (r - m), Real.exp_pos _, by unfold wt; rw [hm, hr, ← EReal.coe_sub]; rfl⟩

/-- Over real scores the two divisions agree, whatever extended reals are summed. -/
theorem once_eq_each (s w : Fin 1024 → EReal) (h : ∀ p, ∃ r : ℝ, s p = r) : once s w = each s w := by
  obtain ⟨l, hl, el⟩ := sum_pos_real Finset.univ ⟨(0 : Fin 1024), Finset.mem_univ _⟩ (wt s) (wt_pos s h)
  unfold once each
  rw [el, Ideal.div_coe hl.ne', sum_mul_of_nonneg _ _ (by exact_mod_cast (one_div_pos.mpr hl).le) (EReal.coe_ne_top _)]
  refine Finset.sum_congr rfl fun p _ => ?_
  rw [Ideal.div_coe hl.ne', mul_right_comm]

/-- The scores of real queries and keys are real numbers. -/
theorem score_real (x : Fin 64 → EReal) (K : Fin 3072 → Fin 64 → EReal) (sel : Fin 1024 → Fin 3072)
    (hx : ∀ t, ∃ r : ℝ, x t = r) (hK : ∀ j t, ∃ r : ℝ, K j t = r) (p : Fin 1024) : ∃ r : ℝ, score x K sel p = r := by
  obtain ⟨r, hr⟩ := sum_real Finset.univ (fun t => x t * K (sel p) t) fun t => by
    obtain ⟨a, ha⟩ := hx t
    obtain ⟨b, hb⟩ := hK (sel p) t
    exact ⟨a * b, by rw [ha, hb, EReal.coe_mul]⟩
  exact ⟨r * (1 / 8), by unfold score; rw [hr, EReal.coe_mul]⟩

end Cert.Attn

end
-- ==== Proof.Finite.lean ====
/- The precondition read back: where it holds, every query and every key is a real number. -/
module

public import proofs.«01_k».proof.Pre_finite_queries_and_keys
public import proofs.«01_k».proof.Proof.Attn
public import Idealize.ShloMosaic.Lib.ReduceAll

@[expose] public section

noncomputable section

namespace Cert.Pre_finite_queries_and_keys

open Idealize.ShloMosaic

/-- The predicate's shape relations. -/
instance facts : Facts where
  bcast_S_S2x16x8192x64 := by decide
  reducesTo_S2x16x8192x64_S_d0_1_2_3 := by decide
  h_S_ := by decide
  bcast_S_S2x16x3072x64 := by decide
  reducesTo_S2x16x3072x64_S_d0_1_2_3 := by decide

/-- An extended real whose magnitude lies below the greatest is a real number. -/
theorem real_of_below (x : EReal) (h : Ideal.cmp .olt (max x (-x)) (Ideal.ofBits .f32 0x7F800000#32) = 1#1) : ∃ r : ℝ, x = r := by
  rw [Attn.greatest] at h
  have hlt : max x (-x) < ⊤ := by
    by_contra hn
    simp [Ideal.cmp, hn] at h
  refine Attn.exists_real ⟨fun e => ?_, fun e => ?_⟩
  · rw [e] at hlt
    simp at hlt
  · rw [e] at hlt
    simp at hlt

instance : Subsingleton S_.Idx := ⟨fun _ _ => funext fun a => a.elim0⟩

/-- Where the predicate is all ones, every query and every key is a real number. -/
theorem real (a0 : IVec S_ 32) (q : Vec Ideal S2x16x8192x64 .f32) (k v : Vec Ideal S2x16x3072x64 .f32)
    (h : fn (F := Ideal) a0 q k v = fun _ => 1#1) : (∀ i, ∃ r : ℝ, q i = r) ∧ ∀ i, ∃ r : ℝ, k i = r := by
  obtain ⟨hq, hk⟩ := IntOp.andi_eq_one.mp (congrFun h (fun a => a.elim0))
  exact ⟨fun i => real_of_below _ (Host.reduce_andi_all _ _ _ _ _ hq i), fun i => real_of_below _ (Host.reduce_andi_all _ _ _ _ _ hk i)⟩

end Cert.Pre_finite_queries_and_keys

end
-- ==== Proof.Take.lean ====
/- Reading rows of a table at selected positions: the programs' gather behind its range checks, at positions known to be in range. -/
module

public import proofs.«01_k».proof.Proof.Gen.KernelIdeal
public import proofs.«01_k».proof.Proof.Gen.ReferenceIdeal
public import Idealize.ShloMosaic.Lib.ReduceAll
public import Idealize.ShloMosaic.Lib.Pointwise

@[expose] public section

set_option maxRecDepth 16384

noncomputable section

open Idealize.ShloMosaic

namespace Cert.Take

/-! ## Positions as words -/

/-- A position's word is not below zero. -/
theorem not_below (n : Fin 3072) : IntOp.cmpi .slt (BitVec.ofNat 32 n.val) 0#32 = 0#1 := by
  revert n; decide +kernel

/-- A position's word is at least zero. -/
theorem at_least (n : Fin 3072) : IntOp.cmpi .sge (BitVec.ofNat 32 n.val) 0#32 = 1#1 := by
  revert n; decide +kernel

/-- A position's word is at most the last position. -/
theorem at_most (n : Fin 3072) : IntOp.cmpi .sle (BitVec.ofNat 32 n.val) 3071#32 = 1#1 := by
  revert n; decide +kernel

/-- A position's word, read signed and clamped into the table, is the position. -/
theorem clamped (n : Fin 3072) : min (BitVec.ofNat 32 n.val).toInt.toNat 3071 = n.val := by
  revert n; decide +kernel

end Cert.Take

namespace Cert.KernelIdeal.Take

open Cert.KernelIdeal Cert.KernelIdeal.Gen

/-- The kernel program's gather at a position in range: the table's row there, head by head. -/
theorem gather_apply {α : Type} (x : S32x3072x64.Idx → α) (idx : IVec S32x1024x64x1 32) (j : S32x1024x64.Idx) (n : Fin 3072)
    (h : idx (ix4 (j 0) (j 1) (j 2) 0) = BitVec.ofNat 32 n.val) :
    Host.gather gather_S32x3072x64_S32x1024x64x1_S32x1024x64_n_1_02_02_1_3_111 x idx j = x (ix3 (j 0) n (j 2)) := by
  unfold Host.gather
  refine congrArg x (funext fun a => Fin.ext ?_)
  show GatherDims.start _ j idx a + GatherDims.batchCoord _ j a + GatherDims.offCoord _ j a = _
  have ha : a = 0 ∨ a = 1 ∨ a = 2 := by
    match a with
    | ⟨0, _⟩ => exact Or.inl rfl
    | ⟨1, _⟩ => exact Or.inr (Or.inl rfl)
    | ⟨2, _⟩ => exact Or.inr (Or.inr (rfl))
  rcases ha with rfl | rfl | rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    unfold GatherDims.start
    rw [dif_pos (by decide)]
    have e : ∀ q, GatherDims.siIdx gather_S32x3072x64_S32x1024x64x1_S32x1024x64_n_1_02_02_1_3_111 j q = ix4 (j 0) (j 1) (j 2) 0 := by
      intro q
      funext b; refine Fin.ext ?_
      match b with
      | ⟨0, _⟩ => rfl
      | ⟨1, _⟩ => rfl
      | ⟨2, _⟩ => rfl
      | ⟨3, _⟩ => exact Nat.lt_one_iff.mp q.isLt
    exact (congrArg (fun w : BitVec 32 => min w.toInt.toNat 3071) ((congrArg idx (e _)).trans h)).trans (Cert.Take.clamped n)
  · rw [GatherDims.start_batching _ _ _ _ (by decide), GatherDims.offCoord_eq_zero _ _ _ (by decide), Nat.zero_add, Nat.add_zero]
    unfold GatherDims.batchCoord
    rw [dif_pos (by decide)]
    rfl

/-- The positions with 3072 added to the negative ones, each as a start index of one component. -/
def starts (ix : IVec S32x1024x64 32) : IVec S32x1024x64x1 32 :=
  shapeCast S32x1024x64x1
    (select (cmpi .slt ix (broadcastInDim S32x1024x64 ![] bcast_S_S32x1024x64 (constantI S_ 32 0#32)))
      (addi ix (broadcastInDim S32x1024x64 ![] bcast_S_S32x1024x64 (constantI S_ 32 3072#32))) ix)
    shapeCasts_S32x1024x64_S32x1024x64x1

/-- Which start indices lie in the table. -/
def inTable (i4 : IVec S32x1024x64x1 32) : IVec S32x1024x64x1 1 :=
  andi (cmpi .sge i4 (broadcastInDim S32x1024x64x1 ![] bcast_S_S32x1024x64x1 (constantI S_ 32 0#32)))
    (cmpi .sle i4 (broadcastInDim S32x1024x64x1 ![0, 1, 2, 3] bcast_S1x1x1x1_S32x1024x64x1_0_1_2_3
      (broadcastInDim S1x1x1x1 ![3] bcast_S1_S1x1x1x1_3 (constantI S1 32 3071#32))))

/-- The kernel program's whole read: the gather where the start index lies in the table, a NaN elsewhere. -/
def take (x : Vec Ideal S32x3072x64 .f32) (ix : IVec S32x1024x64 32) : Vec Ideal S32x1024x64 .f32 :=
  select (Host.reduce IntOp.andi (inTable (starts ix)) (constantI S_ 1 1#1) reducesTo_S32x1024x64x1_S32x1024x64_d3 h_S_)
    (Host.gather gather_S32x3072x64_S32x1024x64x1_S32x1024x64_n_1_02_02_1_3_111 x (starts ix))
    (broadcastInDim S32x1024x64 ![] bcast_S_S32x1024x64 (constant (F := Ideal) S_ .f32 0x7FC00000#32))

/-- At positions in range the start indices are the positions. -/
theorem starts_apply (ix : IVec S32x1024x64 32) (n : S32x1024x64.Idx → Fin 3072) (h : ∀ i, ix i = BitVec.ofNat 32 (n i).val) (k : S32x1024x64x1.Idx) :
    starts ix k = BitVec.ofNat 32 (n (ix3 (k 0) (k 1) (k 2))).val := by
  idx_vars k
  pointwise [starts]
  rw [h, Cert.Take.not_below]
  rfl

/-- At positions in range the whole read is the table's row, head by head. -/
theorem take_apply (x : Vec Ideal S32x3072x64 .f32) (ix : IVec S32x1024x64 32) (n : S32x1024x64.Idx → Fin 3072)
    (h : ∀ i, ix i = BitVec.ofNat 32 (n i).val) (j : S32x1024x64.Idx) : take x ix j = x (ix3 (j 0) (n j) (j 2)) := by
  have e : j = ix3 (j 0) (j 1) (j 2) := funext fun a => by match a with | ⟨0, _⟩ => rfl | ⟨1, _⟩ => rfl | ⟨2, _⟩ => rfl
  have hr : Host.reduce IntOp.andi (inTable (starts ix)) (constantI S_ 1 1#1) reducesTo_S32x1024x64x1_S32x1024x64_d3 h_S_ j = 1#1 := by
    refine Host.reduce_andi_one _ _ _ _ _ rfl fun k => ?_
    have hk := starts_apply ix n h k
    idx_vars k
    pointwise [inTable]
    rw [hk, Cert.Take.at_least, Cert.Take.at_most]
    rfl
  have hg : Host.gather gather_S32x3072x64_S32x1024x64x1_S32x1024x64_n_1_02_02_1_3_111 x (starts ix) j = x (ix3 (j 0) (n j) (j 2)) :=
    gather_apply x (starts ix) j (n j) ((starts_apply ix n h _).trans (congrArg (fun i => BitVec.ofNat 32 (n i).val) e.symm))
  unfold take
  simp only [select]
  rw [hr, hg]
  rfl

end Cert.KernelIdeal.Take

namespace Cert.ReferenceIdeal.Take

open Cert.ReferenceIdeal Cert.ReferenceIdeal.Gen

/-- The reference's gather at a position in range: the table's row there, head by head. -/
theorem gather_apply {α : Type} (x : S2x16x3072x64.Idx → α) (idx : IVec S2x16x1024x64x1 32) (j : S2x16x1024x64.Idx) (n : Fin 3072)
    (h : idx (ix5 (j 0) (j 1) (j 2) (j 3) 0) = BitVec.ofNat 32 n.val) :
    Host.gather gather_S2x16x3072x64_S2x16x1024x64x1_S2x16x1024x64_n_2_013_013_2_4_1111 x idx j = x (ix4 (j 0) (j 1) n (j 3)) := by
  unfold Host.gather
  refine congrArg x (funext fun a => Fin.ext ?_)
  show GatherDims.start _ j idx a + GatherDims.batchCoord _ j a + GatherDims.offCoord _ j a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (rfl)))
  rcases ha with rfl | rfl | rfl | rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    unfold GatherDims.start
    rw [dif_pos (by decide)]
    have e : ∀ q, GatherDims.siIdx gather_S2x16x3072x64_S2x16x1024x64x1_S2x16x1024x64_n_2_013_013_2_4_1111 j q = ix5 (j 0) (j 1) (j 2) (j 3) 0 := by
      intro q
      funext b; refine Fin.ext ?_
      match b with
      | ⟨0, _⟩ => rfl
      | ⟨1, _⟩ => rfl
      | ⟨2, _⟩ => rfl
      | ⟨3, _⟩ => rfl
      | ⟨4, _⟩ => exact Nat.lt_one_iff.mp q.isLt
    exact (congrArg (fun w : BitVec 32 => min w.toInt.toNat 3071) ((congrArg idx (e _)).trans h)).trans (Cert.Take.clamped n)
  · rw [GatherDims.start_batching _ _ _ _ (by decide), GatherDims.offCoord_eq_zero _ _ _ (by decide), Nat.zero_add, Nat.add_zero]
    unfold GatherDims.batchCoord
    rw [dif_pos (by decide)]
    rfl

/-- The reference's start indices: a negative position counted from the table's end, every other as it is. -/
def starts (ix : IVec S2x16x1024x64 32) : IVec S2x16x1024x64x1 32 :=
  shapeCast S2x16x1024x64x1
    (select (cmpi .slt ix (broadcastInDim S2x16x1024x64 ![] bcast_S_S2x16x1024x64 (constantI S_ 32 0#32)))
      (addi ix (broadcastInDim S2x16x1024x64 ![] bcast_S_S2x16x1024x64 (constantI S_ 32 3072#32))) ix)
    shapeCasts_S2x16x1024x64_S2x16x1024x64x1

/-- Which of the reference's start indices lie in the table. -/
def inTable (i5 : IVec S2x16x1024x64x1 32) : IVec S2x16x1024x64x1 1 :=
  andi (cmpi .sge i5 (broadcastInDim S2x16x1024x64x1 ![] bcast_S_S2x16x1024x64x1 (constantI S_ 32 0#32)))
    (cmpi .sle i5 (broadcastInDim S2x16x1024x64x1 ![0, 1, 2, 3, 4] bcast_S1x1x1x1x1_S2x16x1024x64x1_0_1_2_3_4
      (broadcastInDim S1x1x1x1x1 ![4] bcast_S1_S1x1x1x1x1_4 (constantI S1 32 3071#32))))

/-- The reference's whole read: the gather where the start index lies in the table, a NaN elsewhere. -/
def take (x : Vec Ideal S2x16x3072x64 .f32) (ix : IVec S2x16x1024x64 32) : Vec Ideal S2x16x1024x64 .f32 :=
  select (Host.reduce IntOp.andi (inTable (starts ix)) (constantI S_ 1 1#1) reducesTo_S2x16x1024x64x1_S2x16x1024x64_d4 h_S_)
    (Host.gather gather_S2x16x3072x64_S2x16x1024x64x1_S2x16x1024x64_n_2_013_013_2_4_1111 x (starts ix))
    (broadcastInDim S2x16x1024x64 ![] bcast_S_S2x16x1024x64 (constant (F := Ideal) S_ .f32 0x7FC00000#32))

/-- At positions in range the reference's start indices are the positions. -/
theorem starts_apply (ix : IVec S2x16x1024x64 32) (n : S2x16x1024x64.Idx → Fin 3072) (h : ∀ i, ix i = BitVec.ofNat 32 (n i).val)
    (k : S2x16x1024x64x1.Idx) : starts ix k = BitVec.ofNat 32 (n (ix4 (k 0) (k 1) (k 2) (k 3))).val := by
  idx_vars k
  pointwise [starts]
  rw [h, Cert.Take.not_below]
  rfl

/-- At positions in range the reference's whole read is the table's row, head by head. -/
theorem take_apply (x : Vec Ideal S2x16x3072x64 .f32) (ix : IVec S2x16x1024x64 32) (n : S2x16x1024x64.Idx → Fin 3072)
    (h : ∀ i, ix i = BitVec.ofNat 32 (n i).val) (j : S2x16x1024x64.Idx) : take x ix j = x (ix4 (j 0) (j 1) (n j) (j 3)) := by
  have e : j = ix4 (j 0) (j 1) (j 2) (j 3) := funext fun a => by match a with | ⟨0, _⟩ => rfl | ⟨1, _⟩ => rfl | ⟨2, _⟩ => rfl | ⟨3, _⟩ => rfl
  have hr : Host.reduce IntOp.andi (inTable (starts ix)) (constantI S_ 1 1#1) reducesTo_S2x16x1024x64x1_S2x16x1024x64_d4 h_S_ j = 1#1 := by
    refine Host.reduce_andi_one _ _ _ _ _ rfl fun k => ?_
    have hk := starts_apply ix n h k
    idx_vars k
    pointwise [inTable]
    rw [hk, Cert.Take.at_least, Cert.Take.at_most]
    rfl
  have hg : Host.gather gather_S2x16x3072x64_S2x16x1024x64x1_S2x16x1024x64_n_2_013_013_2_4_1111 x (starts ix) j = x (ix4 (j 0) (j 1) (n j) (j 3)) :=
    gather_apply x (starts ix) j (n j) ((starts_apply ix n h _).trans (congrArg (fun i => BitVec.ofNat 32 (n i).val) e.symm))
  unfold take
  simp only [select]
  rw [hr, hg]
  rfl

end Cert.ReferenceIdeal.Take

end
-- ==== Proof.HostReads.lean ====
/- The kernel program's host stretches: what each leaves in the buffers the next part reads, from the buffers it was entered with. -/
module

public import proofs.«01_k».proof.Proof.Gen.KernelIdeal.Frame
public import proofs.«01_k».proof.Proof.Take
public import Idealize.ShloMosaic.Lib.StableHlo.RunRead

@[expose] public section

set_option maxRecDepth 16384

noncomputable section

namespace Cert.KernelIdeal.HostReads

open Cert.KernelIdeal Cert.KernelIdeal.Gen
open Idealize.ShloMosaic Idealize.ShloMosaic.TcCoe Idealize.ShloMosaic.StableHlo

variable (V : Valuation τ sig (Elt Ideal))

/-- The queries, one head after another. -/
theorem v0 : after hostOps0 V (Proc.devRef .tc main_v0)
    = (shapeCast S32x8192x64 (V (Proc.devRef .tc main_arg1) : Vec Ideal S2x16x8192x64 .f32) shapeCasts_S2x16x8192x64_S32x8192x64 : Vec Ideal S32x8192x64 .f32) := by
  after_reads_simp
  rfl

/-- The keys, one head after another. -/
theorem v1 : after hostOps0 V (Proc.devRef .tc main_v1)
    = (shapeCast S32x3072x64 (V (Proc.devRef .tc main_arg2) : Vec Ideal S2x16x3072x64 .f32) shapeCasts_S2x16x3072x64_S32x3072x64 : Vec Ideal S32x3072x64 .f32) := by
  after_reads_simp
  rfl

/-- The values, one head after another. -/
theorem v2 : after hostOps0 V (Proc.devRef .tc main_v2)
    = (shapeCast S32x3072x64 (V (Proc.devRef .tc main_arg3) : Vec Ideal S2x16x3072x64 .f32) shapeCasts_S2x16x3072x64_S32x3072x64 : Vec Ideal S32x3072x64 .f32) := by
  after_reads_simp
  rfl

/-- The sampled queries: every hundredth row of each head's. -/
theorem v3 : after hostOps0 V (Proc.devRef .tc main_v3)
    = (Host.slice S32x82x64 ![0, 0, 0] ![1, 100, 1]
        (shapeCast S32x8192x64 (V (Proc.devRef .tc main_arg1) : Vec Ideal S2x16x8192x64 .f32) shapeCasts_S2x16x8192x64_S32x8192x64)
        slicesBy_S32x8192x64_S32x82x64_0s1_0s100_0s1 : Vec Ideal S32x82x64 .f32) := by
  after_reads_simp
  rfl

/-- The positions of the greatest similarities, repeated along each row's 64 columns. -/
theorem v7 : after hostOps1 V (Proc.devRef .tc main_v7)
    = (broadcastInDim S32x1024x64 ![0, 1, 2] bcast_S32x1024x1_S32x1024x64_0_1_2 (broadcastInDim S32x1024x1 ![0, 1] bcast_S32x1024_S32x1024x1_0_1
        (Host.topK S32x1024 1 (FloatOps.cmpfTotal (F := Ideal) (φ := .f32) .gt)
          (shapeCast S32x3072 (V (Proc.devRef .tc main_v4) : Vec Ideal S32x1x3072 .f32) shapeCasts_S32x1x3072_S32x3072) sliceFits_S32x3072_S32x1024).2)
        : IVec S32x1024x64 32) := by
  after_reads_simp
  rfl

/-- The selected keys: the keys read at the positions. -/
theorem v8 : after hostOps1_1 V (Proc.devRef .tc main_v8) = Take.take (V (Proc.devRef .tc main_v1)) (V (Proc.devRef .tc main_v7)) := by
  after_reads_simp
  simp only [TRef.ofBuf_toBuf]
  simp -implicitDefEqProofs only [TRef.toBuf, TRef.ofBuf, cast_eq]
  rfl

/-- The selected values: the values read at the positions. -/
theorem v9 : after hostOps1_2 V (Proc.devRef .tc main_v9) = Take.take (V (Proc.devRef .tc main_v2)) (V (Proc.devRef .tc main_v7)) := by
  after_reads_simp
  simp only [TRef.ofBuf_toBuf]
  simp -implicitDefEqProofs only [TRef.toBuf, TRef.ofBuf, cast_eq]
  rfl

/-- The result, as heads of batches. -/
theorem v11 : after hostOps2 V (Proc.devRef .tc main_v11)
    = (shapeCast S2x16x8192x64 (V (Proc.devRef .tc main_v10) : Vec Ideal S32x8192x64 .f32) shapeCasts_S32x8192x64_S2x16x8192x64 : Vec Ideal S2x16x8192x64 .f32) := by
  after_reads_simp
  rfl

end Cert.KernelIdeal.HostReads

end
-- ==== Proof.KernelRun.lean ====
/- The run of the kernel's program at `Ideal`: it ends with every buffer outside the kernels' scopes at the last boundary's contents, so its result
   array holds what the last stretch of host operations leaves there, and its arguments are unchanged. -/
module

public import proofs.«01_k».proof.Proof.Gen.KernelIdeal.Frame

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.isDefEq.respectTransparency.types false in
/-- Every run ends with the result array at the last boundary's contents and the arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Whole

end
-- ==== Proof.Payloads.lean ====
/- What each kernel body stores, read at an index. -/
module

public import proofs.«01_k».proof.Proof.Gen.KernelIdeal.Skeleton
public import proofs.«01_k».proof.Proof.Attn
public import Idealize.ShloMosaic.Lib.Pointwise

@[expose] public section

set_option maxRecDepth 16384

noncomputable section

namespace Cert.KernelIdeal.Payloads

open Cert.KernelIdeal Cert.KernelIdeal.Gen
open Idealize.ShloMosaic

/-- The similarity kernel's store at key `j`. -/
theorem sim_apply (x0 : Vec Ideal S1x82x64 .f32) (x1 : Vec Ideal S1x3072x64 .f32) (j : S1x1x3072.Idx) :
    k0_pay1 x0 x1 j = Ideal.div (∑ r : Fin 82, ∑ t : Fin 64, x0 (ix3 0 r t) * x1 (ix3 0 (j 2) t)) (Ideal.ofBits .f32 0x42A40000#32) := by
  idx_vars j
  pointwise [k0_pay1]

/-- The attention kernel's store at a query row and a column. -/
theorem attn_apply (x0 x1 x2 : Vec Ideal S1x1024x64 .f32) (j : S1x1024x64.Idx) :
    k1_pay1 x0 x1 x2 j
      = Attn.once (fun p => (∑ t : Fin 64, x0 (ix3 0 (j 1) t) * x1 (ix3 0 p t)) * ((1 / 8 : ℝ) : EReal)) (fun p => x2 (ix3 0 p (j 2))) := by
  idx_vars j
  unfold Attn.once Attn.wt Attn.top
  pointwise [k1_pay1]
  rw [Attn.eighth, Attn.least]

end Cert.KernelIdeal.Payloads

end
-- ==== Proof.SimRegion.lean ====
/- The similarity kernel's region: its result array ends holding, for each head and key, the key's similarity to the sampled queries. -/
module

public import proofs.«01_k».proof.Proof.Gen.KernelIdeal.Frame
public import proofs.«01_k».proof.Proof.Payloads

@[expose] public section

set_option maxRecDepth 16384

noncomputable section

namespace Cert.KernelIdeal.SimRegion

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Every head's similarities, from the heads' sampled queries and keys. -/
def sims (s : Vec Ideal S32x82x64 .f32) (k : Vec Ideal S32x3072x64 .f32) : Vec Ideal S32x1x3072 .f32 := fun i =>
  Ideal.div (∑ r : Fin 82, ∑ t : Fin 64, s (ix3 (i 0) r t) * k (ix3 (i 0) (i 2) t)) (Ideal.ofBits .f32 0x42A40000#32)

theorem hz : (![0, 0, 0] : Fin 3 → Nat) = fun _ => 0 := funext fun a => by fin_cases a <;> rfl

/-- Each window's block at a point is the point's own head. -/
theorem index_eq : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) := by decide +kernel

/-- Window 0's block holds the point's head's sampled queries. -/
theorem iblk_0 (c : Dev nD) (t : Fin cfg0.N) (r : Fin 82) (e : Fin 64) :
    iblk0 V c 0 t (ix3 0 r e) = V c main_v3 (ix3 (t.cast N_0) r e) := by
  obtain ⟨⟨e0, e1, e2⟩, -, -⟩ := index_eq t
  refine congrArg (V c main_v3) (funext fun a => Fin.ext ?_)
  match a with
  | ⟨0, _⟩ => show win0_0.index t 0 * 1 + 1 * 0 = t.val; omega
  | ⟨1, _⟩ => show win0_0.index t 1 * 82 + 1 * r.val = r.val; omega
  | ⟨2, _⟩ => show win0_0.index t 2 * 64 + 1 * e.val = e.val; omega

/-- Window 1's block holds the point's head's keys. -/
theorem iblk_1 (c : Dev nD) (t : Fin cfg0.N) (j : Fin 3072) (e : Fin 64) :
    iblk0 V c 1 t (ix3 0 j e) = V c main_v1 (ix3 (t.cast N_0) j e) := by
  obtain ⟨-, ⟨e0, e1, e2⟩, -⟩ := index_eq t
  refine congrArg (V c main_v1) (funext fun a => Fin.ext ?_)
  match a with
  | ⟨0, _⟩ => show win0_1.index t 0 * 1 + 1 * 0 = t.val; omega
  | ⟨1, _⟩ => show win0_1.index t 1 * 3072 + 1 * j.val = j.val; omega
  | ⟨2, _⟩ => show win0_1.index t 2 * 64 + 1 * e.val = e.val; omega

/-- Where window 2's block of a point lies in the result array. -/
theorem emb_2 (t : Fin cfg0.N) (j : S1x1x3072.Idx) : ((win0_2.blk t).view.emb j : S32x1x3072.Idx) = ix3 (t.cast N_0) 0 (j 2) := by
  obtain ⟨-, -, ⟨e0, e1, e2⟩⟩ := index_eq t
  have h0 : (j 0).val = 0 := Nat.lt_one_iff.mp (j 0).isLt
  have h1 : (j 1).val = 0 := Nat.lt_one_iff.mp (j 1).isLt
  refine funext fun a => Fin.ext ?_
  match a with
  | ⟨0, _⟩ => show win0_2.index t 0 * 1 + 1 * (j 0).val = t.val; omega
  | ⟨1, _⟩ => show win0_2.index t 1 * 1 + 1 * (j 1).val = 0; omega
  | ⟨2, _⟩ => show win0_2.index t 2 * 3072 + 1 * (j 2).val = (j 2).val; omega

/-- What a point writes back is its block of the similarities. -/
theorem flushed_eq (c : Dev nD) (t : Fin cfg0.N) :
    (dat0 V c).flushed 2 t = (win0_2.blk t).view.read (Elt Ideal) (sims (V c main_v3) (V c main_v1)) := by
  show (cfg0.win 2).cut (grid0.coords t) ((dat0 V c).after 2 t) = _
  rw [after0_2]
  unfold out0_2
  rw [View.canon_unit_zero hz, View.ld_unit_zero hz, View.ld_unit_zero hz]
  funext j
  show k0_pay1 (iblk0 V c 0 t) (iblk0 V c 1 t) j = _
  rw [Payloads.sim_apply]
  show _ = sims (V c main_v3) (V c main_v1) ((win0_2.blk t).view.emb j)
  rw [emb_2]
  exact congrArg (Ideal.div · _) (Finset.sum_congr rfl fun r _ => Finset.sum_congr rfl fun e _ =>
    congrArg₂ (· * ·) (iblk_0 V c t r e) (iblk_1 V c t (j 2) e))

/-- Every element of the result array is in some point's block: that of its head. -/
theorem cover (i : S32x1x3072.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 3072 := (i 2).isLt
  have hn : (i 0).val < grid0.N := by rw [N_0]; exact h0
  refine ⟨⟨(i 0).val, hn⟩, flush0_2 _, ?_⟩
  obtain ⟨-, -, ⟨e0, e1, e2⟩⟩ := index_eq ⟨(i 0).val, hn⟩
  show i ∈ ((View.whole main_v4).slice (win0_2.rect ⟨(i 0).val, hn⟩)).set
  rw [View.set_slice_whole, Rect.mem_set_unit]
  intro a
  match a with
  | ⟨0, _⟩ => show win0_2.index ⟨(i 0).val, hn⟩ 0 * 1 ≤ (i 0).val ∧ (i 0).val < win0_2.index ⟨(i 0).val, hn⟩ 0 * 1 + 1; rw [e0]; dsimp only; omega
  | ⟨1, _⟩ => show win0_2.index ⟨(i 0).val, hn⟩ 1 * 1 ≤ (i 1).val ∧ (i 1).val < win0_2.index ⟨(i 0).val, hn⟩ 1 * 1 + 1; rw [e1]; omega
  | ⟨2, _⟩ => show win0_2.index ⟨(i 0).val, hn⟩ 2 * 3072 ≤ (i 2).val ∧ (i 2).val < win0_2.index ⟨(i 0).val, hn⟩ 2 * 3072 + 3072; rw [e2]; omega

/-- The region's result array ends holding the similarities of the sampled queries and keys it was entered with. -/
theorem final (c : Dev nD) : (dat0 V c).arrAt 2 cfg0.N = sims (V c main_v3) (V c main_v1) :=
  (dat0 V c).arrAt_eq_of_cover 2 (sims (V c main_v3) (V c main_v1)) (fun t _ => flushed_eq V c t) cover

end Cert.KernelIdeal.SimRegion

end
-- ==== Proof.AttnRegion.lean ====
/- The attention kernel's region: its result array ends holding, for each head, query row and column, the weighted sum of the selected values
   divided by the sum of the weights. -/
module

public import proofs.«01_k».proof.Proof.Gen.KernelIdeal.Frame
public import proofs.«01_k».proof.Proof.Payloads

@[expose] public section

set_option maxRecDepth 16384

noncomputable section

namespace Cert.KernelIdeal.AttnRegion

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Every head's attention, from the heads' queries and their selected keys and values. -/
def attns (q : Vec Ideal S32x8192x64 .f32) (k v : Vec Ideal S32x1024x64 .f32) : Vec Ideal S32x8192x64 .f32 := fun i =>
  Attn.once (fun p => (∑ t : Fin 64, q (ix3 (i 0) (i 1) t) * k (ix3 (i 0) p t)) * ((1 / 8 : ℝ) : EReal)) (fun p => v (ix3 (i 0) p (i 2)))

theorem hz : (![0, 0, 0] : Fin 3 → Nat) = fun _ => 0 := funext fun a => by fin_cases a <;> rfl

/-- The head whose rows a grid point computes. -/
abbrev headOf (t : Fin cfg1.N) : Fin 32 := ⟨t.val / 8, by have := t.isLt; have : cfg1.N = 256 := N_1; omega⟩

/-- A row of a grid point's block, as a row of the head's 8192. -/
abbrev rowOf (t : Fin cfg1.N) (i : Fin 1024) : Fin 8192 := ⟨t.val % 8 * 1024 + i.val, by have := i.isLt; omega⟩

/-- A query block is a head's eighth part of the rows; a key or value block is all of a head's selection. -/
theorem index_eq : ∀ t : Fin grid1.N,
    (win1_0.index t 0 = t.val / 8 ∧ win1_0.index t 1 = t.val % 8 ∧ win1_0.index t 2 = 0)
    ∧ (win1_1.index t 0 = t.val / 8 ∧ win1_1.index t 1 = 0 ∧ win1_1.index t 2 = 0)
    ∧ (win1_2.index t 0 = t.val / 8 ∧ win1_2.index t 1 = 0 ∧ win1_2.index t 2 = 0)
    ∧ (win1_3.index t 0 = t.val / 8 ∧ win1_3.index t 1 = t.val % 8 ∧ win1_3.index t 2 = 0) := by decide +kernel

/-- Window 0's block holds its rows of the head's queries. -/
theorem iblk_0 (c : Dev nD) (t : Fin cfg1.N) (i : Fin 1024) (e : Fin 64) :
    iblk1 V c 0 t (ix3 0 i e) = V c main_v0 (ix3 (headOf t) (rowOf t i) e) := by
  obtain ⟨⟨e0, e1, e2⟩, -⟩ := index_eq t
  refine congrArg (V c main_v0) (funext fun a => Fin.ext ?_)
  match a with
  | ⟨0, _⟩ => show win1_0.index t 0 * 1 + 1 * 0 = t.val / 8; omega
  | ⟨1, _⟩ => show win1_0.index t 1 * 1024 + 1 * i.val = t.val % 8 * 1024 + i.val; omega
  | ⟨2, _⟩ => show win1_0.index t 2 * 64 + 1 * e.val = e.val; omega

/-- Window 1's block holds the head's selected keys. -/
theorem iblk_1 (c : Dev nD) (t : Fin cfg1.N) (p : Fin 1024) (e : Fin 64) :
    iblk1 V c 1 t (ix3 0 p e) = V c main_v8 (ix3 (headOf t) p e) := by
  obtain ⟨-, ⟨e0, e1, e2⟩, -⟩ := index_eq t
  refine congrArg (V c main_v8) (funext fun a => Fin.ext ?_)
  match a with
  | ⟨0, _⟩ => show win1_1.index t 0 * 1 + 1 * 0 = t.val / 8; omega
  | ⟨1, _⟩ => show win1_1.index t 1 * 1024 + 1 * p.val = p.val; omega
  | ⟨2, _⟩ => show win1_1.index t 2 * 64 + 1 * e.val = e.val; omega

/-- Window 2's block holds the head's selected values. -/
theorem iblk_2 (c : Dev nD) (t : Fin cfg1.N) (p : Fin 1024) (e : Fin 64) :
    iblk1 V c 2 t (ix3 0 p e) = V c main_v9 (ix3 (headOf t) p e) := by
  obtain ⟨-, -, ⟨e0, e1, e2⟩, -⟩ := index_eq t
  refine congrArg (V c main_v9) (funext fun a => Fin.ext ?_)
  match a with
  | ⟨0, _⟩ => show win1_2.index t 0 * 1 + 1 * 0 = t.val / 8; omega
  | ⟨1, _⟩ => show win1_2.index t 1 * 1024 + 1 * p.val = p.val; omega
  | ⟨2, _⟩ => show win1_2.index t 2 * 64 + 1 * e.val = e.val; omega

/-- Where window 3's block of a point lies in the result array. -/
theorem emb_3 (t : Fin cfg1.N) (j : S1x1024x64.Idx) :
    ((win1_3.blk t).view.emb j : S32x8192x64.Idx) = ix3 (headOf t) (rowOf t (j 1)) (j 2) := by
  obtain ⟨-, -, -, ⟨e0, e1, e2⟩⟩ := index_eq t
  have h0 : (j 0).val = 0 := Nat.lt_one_iff.mp (j 0).isLt
  refine funext fun a => Fin.ext ?_
  match a with
  | ⟨0, _⟩ => show win1_3.index t 0 * 1 + 1 * (j 0).val = t.val / 8; omega
  | ⟨1, _⟩ => show win1_3.index t 1 * 1024 + 1 * (j 1).val = t.val % 8 * 1024 + (j 1).val; omega
  | ⟨2, _⟩ => show win1_3.index t 2 * 64 + 1 * (j 2).val = (j 2).val; omega

/-- What a point writes back is its block of the attention. -/
theorem flushed_eq (c : Dev nD) (t : Fin cfg1.N) :
    (dat1 V c).flushed 3 t = (win1_3.blk t).view.read (Elt Ideal) (attns (V c main_v0) (V c main_v8) (V c main_v9)) := by
  show (cfg1.win 3).cut (grid1.coords t) ((dat1 V c).after 3 t) = _
  rw [after1_3]
  unfold out1_3
  rw [View.canon_unit_zero hz, View.ld_unit_zero hz, View.ld_unit_zero hz, View.ld_unit_zero hz]
  funext j
  show k1_pay1 (iblk1 V c 0 t) (iblk1 V c 1 t) (iblk1 V c 2 t) j = _
  rw [Payloads.attn_apply]
  show _ = attns (V c main_v0) (V c main_v8) (V c main_v9) ((win1_3.blk t).view.emb j)
  rw [emb_3]
  exact congrArg₂ Attn.once
    (funext fun p => congrArg (· * ((1 / 8 : ℝ) : EReal)) (Finset.sum_congr rfl fun e _ =>
      congrArg₂ (· * ·) (iblk_0 V c t (j 1) e) (iblk_1 V c t p e)))
    (funext fun p => iblk_2 V c t p (j 2))

/-- Every element of the result array is in some point's block: that of its head and its eighth part of the rows. -/
theorem cover (i : S32x8192x64.Idx) : ∃ t : Fin cfg1.N, (cfg1.win 3).flush t = true ∧ i ∈ ((cfg1.win 3).blk t).view.set := by
  have h0 : (i 0).val < 32 := (i 0).isLt
  have h1 : (i 1).val < 8192 := (i 1).isLt
  have h2 : (i 2).val < 64 := (i 2).isLt
  obtain ⟨n, en⟩ : ∃ n, n = (i 0).val * 8 + (i 1).val / 1024 := ⟨_, rfl⟩
  have hn : n < grid1.N := by rw [N_1]; omega
  refine ⟨⟨n, hn⟩, flush1_3 _, ?_⟩
  obtain ⟨-, -, -, ⟨e0, e1, e2⟩⟩ := index_eq ⟨n, hn⟩
  show i ∈ ((View.whole main_v10).slice (win1_3.rect ⟨n, hn⟩)).set
  rw [View.set_slice_whole, Rect.mem_set_unit]
  intro a
  match a with
  | ⟨0, _⟩ => show win1_3.index ⟨n, hn⟩ 0 * 1 ≤ (i 0).val ∧ (i 0).val < win1_3.index ⟨n, hn⟩ 0 * 1 + 1; rw [e0]; dsimp only; omega
  | ⟨1, _⟩ => show win1_3.index ⟨n, hn⟩ 1 * 1024 ≤ (i 1).val ∧ (i 1).val < win1_3.index ⟨n, hn⟩ 1 * 1024 + 1024; rw [e1]; dsimp only; omega
  | ⟨2, _⟩ => show win1_3.index ⟨n, hn⟩ 2 * 64 ≤ (i 2).val ∧ (i 2).val < win1_3.index ⟨n, hn⟩ 2 * 64 + 64; rw [e2]; omega

/-- The region's result array ends holding the attention of the queries over the selected keys and values it was entered with. -/
theorem final (c : Dev nD) : (dat1 V c).arrAt 3 cfg1.N = attns (V c main_v0) (V c main_v8) (V c main_v9) :=
  (dat1 V c).arrAt_eq_of_cover 3 (attns (V c main_v0) (V c main_v8) (V c main_v9)) (fun t _ => flushed_eq V c t) cover

end Cert.KernelIdeal.AttnRegion

end
-- ==== Proof.TopK.lean ====
/- The programs' top-k, read at an index: the position it gives in each place of a row is the place's key when the row is sorted. -/
module

public import proofs.«01_k».proof.Proof.Gen.KernelIdeal
public import proofs.«01_k».proof.Proof.Gen.ReferenceIdeal
public import proofs.«01_k».proof.Proof.Attn
public import Idealize.ShloMosaic.Lib.Pointwise

@[expose] public section

noncomputable section

open Idealize.ShloMosaic

namespace Cert.KernelIdeal.TopK

open Cert.KernelIdeal Cert.KernelIdeal.Gen

/-- The kernel program's top-k positions: in each place of a head's row, the key sorted there. -/
theorem indices_apply (x : Vec Ideal S32x3072 .f32) (j : S32x1024.Idx) :
    (Host.topK S32x1024 1 (FloatOps.cmpfTotal (F := Ideal) (φ := .f32) .gt) x sliceFits_S32x3072_S32x1024).2 j
      = BitVec.ofNat 32 (Attn.pick (fun k => x (ix2 (j 0) k)) (j 1)).val := by
  let i : S32x3072.Idx := ix2 (j 0) ⟨(j 1).val, (show (j 1).val < 1024 from (j 1).isLt).trans (by decide)⟩
  have hi : (fun a => ⟨0 + (j (a.cast sliceFits_S32x3072_S32x1024.1.symm)).val,
      Nat.lt_of_lt_of_le (Nat.add_lt_add_left (j _).isLt _) (sliceFits_S32x3072_S32x1024.2 a)⟩ : S32x3072.Idx) = i := by
    funext a; refine Fin.ext ?_
    match a with
    | ⟨0, _⟩ => exact Nat.zero_add _
    | ⟨1, _⟩ => exact Nat.zero_add _
  have al : ∀ k : Fin 3072, (i.along (1 : Fin 2) k : S32x3072.Idx) = ix2 (j 0) k := by
    intro k; funext a
    match a with
    | ⟨0, _⟩ => rfl
    | ⟨1, _⟩ => rfl
  have before : (fun k k' : Fin 3072 => Ideal.cmpTotal .gt (x (i.along (1 : Fin 2) k)) (x (i.along (1 : Fin 2) k')) == 1#1)
      = fun k k' => Ideal.cmpTotal .gt (x (ix2 (j 0) k)) (x (ix2 (j 0) k')) == 1#1 :=
    funext₂ fun k k' => congrArg₂ (fun a b : S32x3072.Idx => Ideal.cmpTotal .gt (x a) (x b) == 1#1) (al k) (al k')
  have same : sortedFrom (fun k k' : Fin 3072 => Ideal.cmpTotal .gt (x (i.along (1 : Fin 2) k)) (x (i.along (1 : Fin 2) k')) == 1#1) (i 1)
      = Attn.pick (fun k => x (ix2 (j 0) k)) (j 1) := by
    rw [before]
    unfold Attn.pick
    rfl
  have place : ∀ k : Fin 3072, iotaInDim S32x3072 32 1 (i.along (1 : Fin 2) k : S32x3072.Idx) = BitVec.ofNat 32 k.val := fun k => rfl
  have key : ∀ (y : IVec S32x3072 32) (_ : ∀ k, y k = iotaInDim S32x3072 32 1 k) (i' : S32x3072.Idx), i' = i →
      (Host.sort2 S32x3072 1 (fun l r : EReal × BitVec 32 => FloatOps.cmpfTotal (F := Ideal) (φ := .f32) .gt l.1 r.1) x y).2 i'
        = BitVec.ofNat 32 (Attn.pick (fun k => x (ix2 (j 0) k)) (j 1)).val := by
    intro y hy i' e
    rw [e]
    unfold Host.sort2
    rw [dif_pos (by decide)]
    exact (hy _).trans ((place _).trans (congrArg (fun k : Fin 3072 => BitVec.ofNat 32 k.val) same))
  unfold Host.topK
  dsimp only [extractStridedSlice]
  exact key _ (fun _ => dif_pos (by decide)) _ hi

end Cert.KernelIdeal.TopK

namespace Cert.ReferenceIdeal.TopK

open Cert.ReferenceIdeal Cert.ReferenceIdeal.Gen

/-- The reference's top-k positions: in each place of a head's row, the key sorted there. -/
theorem indices_apply (x : Vec Ideal S2x16x3072 .f32) (j : S2x16x1024.Idx) :
    (Host.topK S2x16x1024 2 (FloatOps.cmpfTotal (F := Ideal) (φ := .f32) .gt) x sliceFits_S2x16x3072_S2x16x1024).2 j
      = BitVec.ofNat 32 (Attn.pick (fun k => x (ix3 (j 0) (j 1) k)) (j 2)).val := by
  let i : S2x16x3072.Idx := ix3 (j 0) (j 1) ⟨(j 2).val, (show (j 2).val < 1024 from (j 2).isLt).trans (by decide)⟩
  have hi : (fun a => ⟨0 + (j (a.cast sliceFits_S2x16x3072_S2x16x1024.1.symm)).val,
      Nat.lt_of_lt_of_le (Nat.add_lt_add_left (j _).isLt _) (sliceFits_S2x16x3072_S2x16x1024.2 a)⟩ : S2x16x3072.Idx) = i := by
    funext a; refine Fin.ext ?_
    match a with
    | ⟨0, _⟩ => exact Nat.zero_add _
    | ⟨1, _⟩ => exact Nat.zero_add _
    | ⟨2, _⟩ => exact Nat.zero_add _
  have al : ∀ k : Fin 3072, (i.along (2 : Fin 3) k : S2x16x3072.Idx) = ix3 (j 0) (j 1) k := by
    intro k; funext a
    match a with
    | ⟨0, _⟩ => rfl
    | ⟨1, _⟩ => rfl
    | ⟨2, _⟩ => rfl
  have before : (fun k k' : Fin 3072 => Ideal.cmpTotal .gt (x (i.along (2 : Fin 3) k)) (x (i.along (2 : Fin 3) k')) == 1#1)
      = fun k k' => Ideal.cmpTotal .gt (x (ix3 (j 0) (j 1) k)) (x (ix3 (j 0) (j 1) k')) == 1#1 :=
    funext₂ fun k k' => congrArg₂ (fun a b : S2x16x3072.Idx => Ideal.cmpTotal .gt (x a) (x b) == 1#1) (al k) (al k')
  have same : sortedFrom (fun k k' : Fin 3072 => Ideal.cmpTotal .gt (x (i.along (2 : Fin 3) k)) (x (i.along (2 : Fin 3) k')) == 1#1) (i 2)
      = Attn.pick (fun k => x (ix3 (j 0) (j 1) k)) (j 2) := by
    rw [before]
    unfold Attn.pick
    rfl
  have place : ∀ k : Fin 3072, iotaInDim S2x16x3072 32 2 (i.along (2 : Fin 3) k : S2x16x3072.Idx) = BitVec.ofNat 32 k.val := fun k => rfl
  have key : ∀ (y : IVec S2x16x3072 32) (_ : ∀ k, y k = iotaInDim S2x16x3072 32 2 k) (i' : S2x16x3072.Idx), i' = i →
      (Host.sort2 S2x16x3072 2 (fun l r : EReal × BitVec 32 => FloatOps.cmpfTotal (F := Ideal) (φ := .f32) .gt l.1 r.1) x y).2 i'
        = BitVec.ofNat 32 (Attn.pick (fun k => x (ix3 (j 0) (j 1) k)) (j 2)).val := by
    intro y hy i' e
    rw [e]
    unfold Host.sort2
    rw [dif_pos (by decide)]
    exact (hy _).trans ((place _).trans (congrArg (fun k : Fin 3072 => BitVec.ofNat 32 k.val) same))
  unfold Host.topK
  dsimp only [extractStridedSlice]
  exact key _ (fun _ => dif_pos (by decide)) _ hi

end Cert.ReferenceIdeal.TopK

end
-- ==== Proof.KernelValue.lean ====
/- The kernel program's result at an index: one head's attention over the keys its samples select. -/
module

public import proofs.«01_k».proof.Proof.HostReads
public import proofs.«01_k».proof.Proof.KernelRun
public import proofs.«01_k».proof.Proof.SimRegion
public import proofs.«01_k».proof.Proof.AttnRegion
public import proofs.«01_k».proof.Proof.TopK
public import Idealize.ShloMosaic.Lib.Pointwise

@[expose] public section

set_option maxRecDepth 16384

noncomputable section

namespace Cert.KernelIdeal.KernelValue

open Cert.KernelIdeal Cert.KernelIdeal.Gen
open Idealize.ShloMosaic Idealize.ShloMosaic.TcCoe

/-- The sampled queries of every head. -/
def samples (q : Vec Ideal S32x8192x64 .f32) : Vec Ideal S32x82x64 .f32 :=
  Host.slice S32x82x64 ![0, 0, 0] ![1, 100, 1] q slicesBy_S32x8192x64_S32x82x64_0s1_0s100_0s1

/-- The averaged similarities, a row to a head. -/
def rows (s : Vec Ideal S32x1x3072 .f32) : Vec Ideal S32x3072 .f32 := shapeCast S32x3072 s shapeCasts_S32x1x3072_S32x3072

/-- The positions of each row's greatest entries. -/
def ranks (x : Vec Ideal S32x3072 .f32) : IVec S32x1024 32 :=
  (Host.topK S32x1024 1 (FloatOps.cmpfTotal (F := Ideal) (φ := .f32) .gt) x sliceFits_S32x3072_S32x1024).2

/-- Positions repeated along the 64 columns. -/
def spread (n : IVec S32x1024 32) : IVec S32x1024x64 32 :=
  broadcastInDim S32x1024x64 ![0, 1, 2] bcast_S32x1024x1_S32x1024x64_0_1_2 (broadcastInDim S32x1024x1 ![0, 1] bcast_S32x1024_S32x1024x1_0_1 n)

/-- The positions one head's samples select. -/
def chosen (q : Vec Ideal S32x8192x64 .f32) (k : Vec Ideal S32x3072x64 .f32) (h : Fin 32) (p : Fin 1024) : Fin 3072 :=
  Attn.pick (Attn.sim (fun r t => q (ix3 h r t)) (fun j t => k (ix3 h j t))) p

/-- One head's row of averaged similarities, as the program lays it out. -/
theorem rows_apply (q : Vec Ideal S32x8192x64 .f32) (k : Vec Ideal S32x3072x64 .f32) (h : Fin 32) (j : Fin 3072) :
    rows (SimRegion.sims (samples q) k) (ix2 h j) = Attn.sim (fun r t => q (ix3 h r t)) (fun j t => k (ix3 h j t)) j := by
  pointwise [rows, samples, SimRegion.sims, Attn.sim]

/-- A repeated position is the position. -/
theorem spread_apply (n : IVec S32x1024 32) (i : S32x1024x64.Idx) : spread n i = n (ix2 (i 0) (i 1)) := by
  idx_vars i
  pointwise [spread]

/-- The positions the program holds are the chosen ones. -/
theorem places_apply (q : Vec Ideal S32x8192x64 .f32) (k : Vec Ideal S32x3072x64 .f32) (i : S32x1024x64.Idx) :
    spread (ranks (rows (SimRegion.sims (samples q) k))) i = BitVec.ofNat 32 (chosen q k (i 0) (i 1)).val :=
  (spread_apply _ i).trans ((TopK.indices_apply _ (ix2 (i 0) (i 1))).trans
    (congrArg (fun row => BitVec.ofNat 32 (Attn.pick row (i 1)).val) (funext fun j => rows_apply q k (i 0) j)))

/-- Attention over the keys and values read at the chosen positions is the head's attention. -/
theorem attns_apply (q : Vec Ideal S32x8192x64 .f32) (k v : Vec Ideal S32x3072x64 .f32) (n : IVec S32x1024x64 32)
    (hn : ∀ i, n i = BitVec.ofNat 32 (chosen q k (i 0) (i 1)).val) (h : Fin 32) (r : Fin 8192) (d : Fin 64) :
    AttnRegion.attns q (Take.take k n) (Take.take v n) (ix3 h r d)
      = Attn.head (fun r t => q (ix3 h r t)) (fun j t => k (ix3 h j t)) (fun j t => v (ix3 h j t)) r d := by
  unfold AttnRegion.attns Attn.head Attn.score
  refine congrArg₂ Attn.once (funext fun p => congrArg (· * ((1 / 8 : ℝ) : EReal)) (Finset.sum_congr rfl fun t _ => congrArg (q (ix3 h r t) * ·) ?_)) (funext fun p => ?_)
  · exact Take.take_apply k n _ hn (ix3 h p t)
  · exact Take.take_apply v n _ hn (ix3 h p d)

variable (m : (ℓ : Loc nD τ sig) → Buf (Elt Ideal) ℓ) (ρ : Dev nD → PrngReg) (c : Dev nD)

/-- The queries as the regions hold them. -/
abbrev qs : Vec Ideal S32x8192x64 .f32 := shapeCast S32x8192x64 (m ((c : Thread nD τ).loc main_arg1) : Vec Ideal S2x16x8192x64 .f32) shapeCasts_S2x16x8192x64_S32x8192x64
/-- The keys as the regions hold them. -/
abbrev ks : Vec Ideal S32x3072x64 .f32 := shapeCast S32x3072x64 (m ((c : Thread nD τ).loc main_arg2) : Vec Ideal S2x16x3072x64 .f32) shapeCasts_S2x16x3072x64_S32x3072x64
/-- The values as the regions hold them. -/
abbrev vs : Vec Ideal S32x3072x64 .f32 := shapeCast S32x3072x64 (m ((c : Thread nD τ).loc main_arg3) : Vec Ideal S2x16x3072x64 .f32) shapeCasts_S2x16x3072x64_S32x3072x64

/-- The queries the attention region is entered with. -/
theorem entry_q : V5 m ρ c main_v0 = qs m c :=
  (W5_of m ρ c main_v0 (by decide)).trans ((W4_of m ρ c main_v0 (by decide)).trans ((W3_of m ρ c main_v0 (by decide)).trans
    ((W2_of m ρ c main_v0 (by decide)).trans (HostReads.v0 _))))

/-- The keys the selection reads. -/
theorem entry_k : W3 m ρ c (Proc.devRef .tc main_v1) = ks m c :=
  (W3_of m ρ c main_v1 (by decide)).trans ((W2_of m ρ c main_v1 (by decide)).trans (HostReads.v1 _))

/-- The values the selection reads. -/
theorem entry_v : W4 m ρ c (Proc.devRef .tc main_v2) = vs m c :=
  (W4_of m ρ c main_v2 (by decide)).trans ((W3_of m ρ c main_v2 (by decide)).trans ((W2_of m ρ c main_v2 (by decide)).trans (HostReads.v2 _)))

/-- The similarities the first region leaves. -/
theorem left_sims : W2 m ρ c (Proc.devRef .tc main_v4) = SimRegion.sims (samples (qs m c)) (ks m c) :=
  (W2_arr m ρ c 2).trans ((SimRegion.final (V1 m ρ) c).trans (congrArg₂ SimRegion.sims (HostReads.v3 _) (HostReads.v1 _)))

/-- The positions both selections read at. -/
theorem entry_n : W3 m ρ c (Proc.devRef .tc main_v7) = spread (ranks (rows (SimRegion.sims (samples (qs m c)) (ks m c)))) :=
  (HostReads.v7 _).trans (congrArg (fun s => spread (ranks (rows s))) (left_sims m ρ c))

/-- The keys the attention region is entered with. -/
theorem entry_ks : V5 m ρ c main_v8 = Take.take (ks m c) (spread (ranks (rows (SimRegion.sims (samples (qs m c)) (ks m c))))) :=
  (W5_of m ρ c main_v8 (by decide)).trans ((HostReads.v8 _).trans (congrArg₂ Take.take (entry_k m ρ c) (entry_n m ρ c)))

/-- The values the attention region is entered with. -/
theorem entry_vs : V5 m ρ c main_v9 = Take.take (vs m c) (spread (ranks (rows (SimRegion.sims (samples (qs m c)) (ks m c))))) :=
  (HostReads.v9 _).trans (congrArg₂ Take.take (entry_v m ρ c) ((W4_of m ρ c main_v7 (by decide)).trans (entry_n m ρ c)))

/-- The attention the second region leaves. -/
theorem left_attn : W6 m ρ c (Proc.devRef .tc main_v10)
    = AttnRegion.attns (qs m c) (Take.take (ks m c) (spread (ranks (rows (SimRegion.sims (samples (qs m c)) (ks m c))))))
        (Take.take (vs m c) (spread (ranks (rows (SimRegion.sims (samples (qs m c)) (ks m c)))))) := by
  refine (W6_arr m ρ c 3).trans ((AttnRegion.final (V5 m ρ) c).trans ?_)
  rw [entry_q, entry_ks, entry_vs]

/-- Where a head of a batch lies among all heads. -/
def flat (b : Fin 2) (h : Fin 16) : Fin 32 := ⟨b.val * 16 + h.val, by omega⟩

/-- The result's heads are the regions' heads in order. -/
theorem out_apply (x : Vec Ideal S32x8192x64 .f32) (b : Fin 2) (h : Fin 16) (r : Fin 8192) (d : Fin 64) :
    shapeCast S2x16x8192x64 x shapeCasts_S32x8192x64_S2x16x8192x64 (ix4 b h r d) = x (ix3 (flat b h) r d) := by
  pointwise [flat]

/-- The regions' queries are the argument's. -/
theorem in_q (x : Vec Ideal S2x16x8192x64 .f32) (b : Fin 2) (h : Fin 16) (r : Fin 8192) (d : Fin 64) :
    shapeCast S32x8192x64 x shapeCasts_S2x16x8192x64_S32x8192x64 (ix3 (flat b h) r d) = x (ix4 b h r d) := by
  pointwise [flat]

/-- The regions' keys, and values, are the argument's. -/
theorem in_k (x : Vec Ideal S2x16x3072x64 .f32) (b : Fin 2) (h : Fin 16) (r : Fin 3072) (d : Fin 64) :
    shapeCast S32x3072x64 x shapeCasts_S2x16x3072x64_S32x3072x64 (ix3 (flat b h) r d) = x (ix4 b h r d) := by
  pointwise [flat]

/-- A head's attention depends on its queries, keys and values alone. -/
theorem head_congr {Q Q' : Fin 8192 → Fin 64 → EReal} {K K' V V' : Fin 3072 → Fin 64 → EReal} (hQ : Q = Q') (hK : K = K') (hV : V = V')
    (r : Fin 8192) (d : Fin 64) : Attn.head Q K V r d = Attn.head Q' K' V' r d := by
  rw [hQ, hK, hV]

/-- The program's result is each head's attention over the keys its samples select. -/
theorem result_apply (b : Fin 2) (h : Fin 16) (r : Fin 8192) (d : Fin 64) :
    (W7 m ρ c (Proc.devRef .tc main_v11) : Vec Ideal S2x16x8192x64 .f32) (ix4 b h r d)
      = Attn.head (fun r t => (m ((c : Thread nD τ).loc main_arg1) : Vec Ideal S2x16x8192x64 .f32) (ix4 b h r t))
          (fun j t => (m ((c : Thread nD τ).loc main_arg2) : Vec Ideal S2x16x3072x64 .f32) (ix4 b h j t))
          (fun j t => (m ((c : Thread nD τ).loc main_arg3) : Vec Ideal S2x16x3072x64 .f32) (ix4 b h j t)) r d := by
  have e : (W7 m ρ c (Proc.devRef .tc main_v11) : Vec Ideal S2x16x8192x64 .f32) = _ :=
    (HostReads.v11 _).trans (congrArg (fun x : Vec Ideal S32x8192x64 .f32 => shapeCast S2x16x8192x64 x shapeCasts_S32x8192x64_S2x16x8192x64) (left_attn m ρ c))
  refine (congrFun e _).trans ((out_apply _ b h r d).trans ((attns_apply _ _ _ _ (places_apply _ _) (flat b h) r d).trans ?_))
  have hq := in_q (m ((c : Thread nD τ).loc main_arg1)) b h
  have hk := in_k (m ((c : Thread nD τ).loc main_arg2)) b h
  have hv := in_k (m ((c : Thread nD τ).loc main_arg3)) b h
  exact head_congr (funext fun r => funext fun t => hq r t) (funext fun j => funext fun t => hk j t) (funext fun j => funext fun t => hv j t) r d

end Cert.KernelIdeal.KernelValue

end
-- ==== Proof.RefValue.lean ====
/- The reference program's result at an index: one head's attention over the keys its samples select, each weight divided first. -/
module

public import proofs.«01_k».proof.Proof.Gen.ReferenceIdeal.Read
public import proofs.«01_k».proof.Proof.Take
public import proofs.«01_k».proof.Proof.TopK
public import Idealize.ShloMosaic.Lib.Pointwise

@[expose] public section

set_option maxRecDepth 16384

noncomputable section

namespace Cert.ReferenceIdeal.RefValue

open Cert.ReferenceIdeal Cert.ReferenceIdeal.Gen Cert.ReferenceIdeal.Read
open Idealize.ShloMosaic Idealize.ShloMosaic.TcCoe

variable (q : Vec Ideal S2x16x8192x64 .f32) (k v : Vec Ideal S2x16x3072x64 .f32)

/-- The positions one head's samples select. -/
def chosen (b : Fin 2) (h : Fin 16) (p : Fin 1024) : Fin 3072 :=
  Attn.pick (Attn.sim (fun r t => q (ix4 b h r t)) (fun j t => k (ix4 b h j t))) p

/-- One head's averaged similarities. -/
theorem row_apply (b : Fin 2) (h : Fin 16) (j : Fin 3072) :
    val_main_v4 (F := Ideal) q k (ix3 b h j) = Attn.sim (fun r t => q (ix4 b h r t)) (fun j t => k (ix4 b h j t)) j := by
  pointwise [val_main_v4, val_main_v3, val_main_cst_0, val_main_v2, val_main_cst, val_main_v1, val_main_v0, Attn.sim]

/-- A repeated position is the position. -/
theorem spread_apply (n : IVec S2x16x1024 32) (i : S2x16x1024x64.Idx) :
    broadcastInDim S2x16x1024x64 ![0, 1, 2, 3] bcast_S2x16x1024x1_S2x16x1024x64_0_1_2_3
      (broadcastInDim S2x16x1024x1 ![0, 1, 2] bcast_S2x16x1024_S2x16x1024x1_0_1_2 n) i = n (ix3 (i 0) (i 1) (i 2)) := by
  idx_vars i
  pointwise

/-- The positions the reference holds are the chosen ones. -/
theorem places_apply (i : S2x16x1024x64.Idx) :
    val_main_v6 (F := Ideal) q k i = BitVec.ofNat 32 (chosen q k (i 0) (i 1) (i 2)).val :=
  (spread_apply _ i).trans ((TopK.indices_apply _ (ix3 (i 0) (i 1) (i 2))).trans
    (congrArg (fun row => BitVec.ofNat 32 (Attn.pick row (i 2)).val) (funext fun j => row_apply q k (i 0) (i 1) j)))

/-- The reference's keys are the chosen keys. -/
theorem keys_apply (j : S2x16x1024x64.Idx) : val_main_v8 (F := Ideal) q k j = k (ix4 (j 0) (j 1) (chosen q k (j 0) (j 1) (j 2)) (j 3)) :=
  Take.take_apply k (val_main_v6 (F := Ideal) q k) _ (places_apply q k) j

/-- The reference's values are the chosen values. -/
theorem values_apply (j : S2x16x1024x64.Idx) : val_main_v7 (F := Ideal) q k v j = v (ix4 (j 0) (j 1) (chosen q k (j 0) (j 1) (j 2)) (j 3)) :=
  Take.take_apply v (val_main_v6 (F := Ideal) q k) _ (places_apply q k) j

/-- One query's scaled score against one chosen key. -/
theorem score_apply (b : Fin 2) (h : Fin 16) (r : Fin 8192) (p : Fin 1024) :
    val_main_v12 (F := Ideal) q k (ix4 b h r p) = Attn.score (fun t => q (ix4 b h r t)) (fun j t => k (ix4 b h j t)) (chosen q k b h) p := by
  have hk := keys_apply q k
  unfold val_main_v12 val_main_v9
  generalize val_main_v8 (F := Ideal) q k = y at hk ⊢
  pointwise [val_main_v11, val_main_v10, val_main_cst_1]
  rw [Attn.div_sqrt_width]
  refine congrArg (· * ((1 / 8 : ℝ) : EReal)) (Finset.sum_congr rfl fun t _ => congrArg (q (ix4 b h r t) * ·) ?_)
  exact hk (ix4 b h p t)

/-- The greatest of a query's entries, from the bottom element. -/
theorem top_apply (s : Vec Ideal S2x16x8192x1024 .f32) (b : Fin 2) (h : Fin 16) (r : Fin 8192) :
    Host.reduce (FloatOps.maximumf (F := Ideal) (φ := .f32)) s (constant (F := Ideal) S_ .f32 0xFF800000#32) reducesTo_S2x16x8192x1024_S2x16x8192_d3 h_S_ (ix3 b h r)
      = Attn.top fun p : Fin 1024 => s (ix4 b h r p) := by
  unfold Attn.top
  pointwise
  rw [Attn.least]

/-- One query's scores against the chosen keys. -/
def scores (b : Fin 2) (h : Fin 16) (r : Fin 8192) : Fin 1024 → EReal :=
  Attn.score (fun t => q (ix4 b h r t)) (fun j t => k (ix4 b h j t)) (chosen q k b h)

/-- What is subtracted from a query's scores is the greatest of them. -/
theorem shift_apply (b : Fin 2) (h : Fin 16) (r : Fin 8192) (p : Fin 1024) :
    val_main_v17 (F := Ideal) q k (ix4 b h r p) = Attn.top (scores q k b h r) := by
  have e : idx_main_v16 (idx_main_v17 (ix4 b h r p)) = ix3 b h r := funext fun a => by match a with | ⟨0, _⟩ => rfl | ⟨1, _⟩ => rfl | ⟨2, _⟩ => rfl
  have ht : val_main_v13 (F := Ideal) q k (ix3 b h r) = Attn.top (scores q k b h r) :=
    (top_apply (val_main_v12 (F := Ideal) q k) b h r).trans (congrArg Attn.top (funext fun p => score_apply q k b h r p))
  rw [val_main_v17_apply, val_main_v16_apply, e, val_main_v15_apply, ht, val_main_v14_apply, val_main_cst_3_apply]
  exact (congrArg (max · _) Attn.least).trans (max_eq_right bot_le)

/-- A query's weights before they are divided. -/
theorem weight_apply (b : Fin 2) (h : Fin 16) (r : Fin 8192) (p : Fin 1024) :
    val_main_v19 (F := Ideal) q k (ix4 b h r p) = Attn.wt (scores q k b h r) p := by
  rw [val_main_v19_apply, val_main_v18_apply, shift_apply, score_apply]
  rfl

/-- What a query's weights are divided by is their sum. -/
theorem total_apply (b : Fin 2) (h : Fin 16) (r : Fin 8192) (p : Fin 1024) :
    val_main_v22 (F := Ideal) q k (ix4 b h r p) = ∑ p, Attn.wt (scores q k b h r) p := by
  have e (x : Fin 1024) : idx_main_v20 (idx_main_v21 (idx_main_v22 (ix4 b h r p))) x = ix4 b h r x :=
    funext fun a => by match a with | ⟨0, _⟩ => rfl | ⟨1, _⟩ => rfl | ⟨2, _⟩ => rfl | ⟨3, _⟩ => rfl
  rw [val_main_v22_apply, val_main_v21_apply, val_main_v20_apply, val_main_cst_4_apply]
  refine (congrArg₂ (· + ·) Ideal.ofBits_zero_f32 (Finset.sum_congr rfl fun x _ => (congrArg _ (e x)).trans (weight_apply q k b h r x))).trans (zero_add _)

/-- A query's divided weights. -/
theorem share_apply (b : Fin 2) (h : Fin 16) (r : Fin 8192) (p : Fin 1024) :
    val_main_v23 (F := Ideal) q k (ix4 b h r p) = Ideal.div (Attn.wt (scores q k b h r) p) (∑ p, Attn.wt (scores q k b h r) p) :=
  (val_main_v23_apply q k (ix4 b h r p)).trans (congrArg₂ Ideal.div (weight_apply q k b h r p) (total_apply q k b h r p))

/-- The reference's result is each head's attention over the keys its samples select, each weight divided before it is used. -/
theorem result_apply (b : Fin 2) (h : Fin 16) (r : Fin 8192) (d : Fin 64) :
    val_main_v24 (F := Ideal) q k v (ix4 b h r d) = Attn.each (scores q k b h r) fun p => v (ix4 b h (chosen q k b h p) d) := by
  have el (p : Fin 1024) : lidx_main_v24 (ix4 b h r d) p = ix4 b h r p := funext fun a => by match a with | ⟨0, _⟩ => rfl | ⟨1, _⟩ => rfl | ⟨2, _⟩ => rfl | ⟨3, _⟩ => rfl
  have er (p : Fin 1024) : ridx_main_v24 (ix4 b h r d) p = ix4 b h p d := funext fun a => by match a with | ⟨0, _⟩ => rfl | ⟨1, _⟩ => rfl | ⟨2, _⟩ => rfl | ⟨3, _⟩ => rfl
  have hs (p : Fin 1024) := (congrArg (val_main_v23 (F := Ideal) q k) (el p)).trans (share_apply q k b h r p)
  have hv (p : Fin 1024) := (congrArg (val_main_v7 (F := Ideal) q k v) (er p)).trans (values_apply q k v (ix4 b h p d))
  refine (val_main_v24_apply q k v (ix4 b h r d)).trans ?_
  generalize val_main_v23 (F := Ideal) q k = y at hs ⊢
  generalize val_main_v7 (F := Ideal) q k v = w at hv ⊢
  unfold Attn.each
  exact Finset.sum_congr rfl fun p _ => congrArg₂ (· * ·) (hs p) (hv p)

end Cert.ReferenceIdeal.RefValue

end
-- ==== Proof.Equal.lean ====
/- The value claim: both programs run and end with the same result wherever the queries and keys are real numbers. -/
module

public import proofs.«01_k».proof.Defs
public import proofs.«01_k».proof.Proof.KernelValue
public import proofs.«01_k».proof.Proof.RefValue
public import proofs.«01_k».proof.Proof.Finite

@[expose] public section

noncomputable section

namespace Cert.Equal

open Idealize.ShloMosaic Idealize.ShloMosaic.TcCoe Idealize.SL.Sem

/-- One head's attention is the same number whether its weights are divided before or after they are used. -/
theorem head_eq (q : Vec Ideal Cert.ReferenceIdeal.S2x16x8192x64 .f32) (k v : Vec Ideal Cert.ReferenceIdeal.S2x16x3072x64 .f32)
    (hq : ∀ i, ∃ r : ℝ, q i = r) (hk : ∀ i, ∃ r : ℝ, k i = r) (b : Fin 2) (h : Fin 16) (r : Fin 8192) (d : Fin 64) :
    Attn.head (fun r t => q (ix4 b h r t)) (fun j t => k (ix4 b h j t)) (fun j t => v (ix4 b h j t)) r d
      = Cert.ReferenceIdeal.Read.val_main_v24 (F := Ideal) q k v (ix4 b h r d) :=
  (Attn.once_eq_each _ _ (Attn.score_real _ _ _ (fun _ => hq _) fun _ _ => hk _)).trans (Cert.ReferenceIdeal.RefValue.result_apply q k v b h r d).symm

/-- The two programs' results are equal wherever the queries and keys are real numbers. -/
theorem algebraic : algebraic_KernelIdeal_ReferenceIdeal_pre_finite_queries_and_keys := by
  intro m g m' g' hpre hargs
  refine ⟨fun c => Cert.KernelIdeal.Gen.W7 m g c (Proc.devRef .tc Cert.KernelIdeal.main_v11), Cert.KernelIdeal.Whole.run m g, ?_⟩
  refine (θ_run _ _ _).mono (fun r hr c => ⟨(hr c).1.trans ?_, (hr c).2⟩) (Cert.ReferenceIdeal.Value.run m' g')
  obtain ⟨hq, hk⟩ := Cert.Pre_finite_queries_and_keys.real _ _ _ _ (hpre c)
  obtain ⟨-, e1, e2, e3⟩ := hargs c
  refine (Cert.ReferenceIdeal.Read.val_main_v24_eq m' c).trans ?_
  rw [e1, e2, e3]
  funext i
  have ei : i = ix4 (i 0) (i 1) (i 2) (i 3) := funext fun a => by match a with | ⟨0, _⟩ => rfl | ⟨1, _⟩ => rfl | ⟨2, _⟩ => rfl | ⟨3, _⟩ => rfl
  rw [ei]
  exact ((Cert.KernelIdeal.KernelValue.result_apply m g c (i 0) (i 1) (i 2) (i 3)).trans (head_eq _ _ _ hq hk (i 0) (i 1) (i 2) (i 3))).symm

end Cert.Equal

end
-- ==== Proof.lean ====
/- The proof of the certificate's claims: each part is proved in a module under Proof/ and put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim: the three programs run and come to rest, the two kernel programs are one text, and the kernel's result is the reference's wherever
    the queries and keys are real numbers. -/
theorem claim : Cert.Claim := ⟨Cert.Kernel.Gen.facts, Cert.KernelIdeal.Gen.facts, Cert.ReferenceIdeal.Gen.facts, Cert.Pre_finite_queries_and_keys.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Frame.frame m ρ, fun m ρ _ => Cert.ReferenceIdeal.Frame.frame m ρ, trivial, Cert.Equal.algebraic⟩

end Cert.Proof

end
